-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_tie [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_no_tie [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_no_tie [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v9)) (v5 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_v10) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_v72) = v3 c
          ∧ r.2.mem ((c.tc : Thread Cert.ReferenceIdeal.nD Cert.ReferenceIdeal.τ).loc Cert.ReferenceIdeal.main_v75) = v4 c
          ∧ r.2.mem ((c.tc : Thread Cert.ReferenceIdeal.nD Cert.ReferenceIdeal.τ).loc Cert.ReferenceIdeal.main_v55) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_KernelIdeal (hKernelIdeal := hKernelIdeal)
    ∧ quiescent_KernelIdeal_pre_no_tie (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal_pre_no_tie (hKernelIdeal := hKernelIdeal) (hReferenceIdeal := hReferenceIdeal) (hPre_no_tie := hPre_no_tie)
-- ==== Pre_no_tie.lean ====
abbrev S4x4096x4096 : Shape := ⟨3, ![4, 4096, 4096]⟩
abbrev S4096x512 : Shape := ⟨2, ![4096, 512]⟩
abbrev S512 : Shape := ⟨1, ![512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S16384x4096 : Shape := ⟨2, ![16384, 4096]⟩
abbrev S16384x512 : Shape := ⟨2, ![16384, 512]⟩
abbrev S1x512 : Shape := ⟨2, ![1, 512]⟩
abbrev S_ : Shape := ⟨0, ![]⟩
abbrev S16384x256 : Shape := ⟨2, ![16384, 256]⟩
abbrev S1x256 : Shape := ⟨2, ![1, 256]⟩
abbrev S16384x64 : Shape := ⟨2, ![16384, 64]⟩
abbrev S1x64 : Shape := ⟨2, ![1, 64]⟩
abbrev S16384x3 : Shape := ⟨2, ![16384, 3]⟩
abbrev S16384x1 : Shape := ⟨2, ![16384, 1]⟩
abbrev S16384 : Shape := ⟨1, ![16384]⟩

class Facts : Prop where
  shapeCasts_S4x4096x4096_S16384x4096 : S4x4096x4096.ShapeCasts S16384x4096
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  sliceFits_S16384x64_S16384x3 : S16384x64.Slices (fun _ => 0) S16384x3
  slices_S16384x3_S16384x1_0_0 : S16384x3.Slices ![0, 0] S16384x1
  shapeCasts_S16384x1_S16384 : S16384x1.ShapeCasts S16384
  bcast_S_S16384 : S_.BroadcastsInDim S16384 (![] : Fin 0 → Fin S16384.rank)
  slices_S16384x3_S16384x1_0_1 : S16384x3.Slices ![0, 1] S16384x1
  slices_S16384x3_S16384x1_0_2 : S16384x3.Slices ![0, 2] S16384x1
  dot_S16384x4096_S4096x512_S16384x512_1_0_0_1_n_n_wf : DotDims.WF S16384x4096 S4096x512 S16384x512 [1] [0] [0] [1] [] []
  dot_S16384x512_S512x256_S16384x256_1_0_0_1_n_n_wf : DotDims.WF S16384x512 S512x256 S16384x256 [1] [0] [0] [1] [] []
  dot_S16384x256_S256x64_S16384x64_1_0_0_1_n_n_wf : DotDims.WF S16384x256 S256x64 S16384x64 [1] [0] [0] [1] [] []

variable [Facts]

def dot_S16384x4096_S4096x512_S16384x512_1_0_0_1_n_n : DotDims S16384x4096 S4096x512 S16384x512 where
  lhsContracting := [1]
  rhsContracting := [0]
  lhsNonContracting := [0]
  rhsNonContracting := [1]
  lhsBatch := []
  rhsBatch := []
  wf := dot_S16384x4096_S4096x512_S16384x512_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def fn_part1 {F : FTy → Type} [FloatOps F] (main_values : FVec F S16384x3 .f32) : IVec S16384 1 :=
  let main_v19 : FVec F S16384x1 .f32 := (extractStridedSlice S16384x1 ![0, 0] · slices_S16384x3_S16384x1_0_0) main_values
  let main_v20 : FVec F S16384 .f32 := shapeCast S16384 main_v19 shapeCasts_S16384x1_S16384
  let main_cst_2 : FVec F S_ .f32 := constant S_ .f32 0x7F800000#32
  let main_v21 : FVec F S16384 .f32 := broadcastInDim S16384 ![] bcast_S_S16384 main_cst_2
  let main_v22 : IVec S16384 1 := cmpf .olt main_v20 main_v21
  let main_v23 : FVec F S16384x1 .f32 := (extractStridedSlice S16384x1 ![0, 0] · slices_S16384x3_S16384x1_0_0) main_values
  let main_v24 : FVec F S16384 .f32 := shapeCast S16384 main_v23 shapeCasts_S16384x1_S16384
  let main_v25 : FVec F S16384x1 .f32 := (extractStridedSlice S16384x1 ![0, 1] · slices_S16384x3_S16384x1_0_1) main_values
  let main_v26 : FVec F S16384 .f32 := shapeCast S16384 main_v25 shapeCasts_S16384x1_S16384
  let main_v27 : IVec S16384 1 := cmpf .ogt main_v24 main_v26
  let main_v28 : IVec S16384 1 := andi main_v22 main_v27
  let main_v29 : FVec F S16384x1 .f32 := (extractStridedSlice S16384x1 ![0, 1] · slices_S16384x3_S16384x1_0_1) main_values
  let main_v30 : FVec F S16384 .f32 := shapeCast S16384 main_v29 shapeCasts_S16384x1_S16384
  let main_v31 : FVec F S16384x1 .f32 := (extractStridedSlice S16384x1 ![0, 2] · slices_S16384x3_S16384x1_0_2) main_values
  let main_v32 : FVec F S16384 .f32 := shapeCast S16384 main_v31 shapeCasts_S16384x1_S16384
  let main_v33 : IVec S16384 1 := cmpf .ogt main_v30 main_v32
  let main_v34 : IVec S16384 1 := andi main_v28 main_v33
  main_v34

def fn {F : FTy → Type} [FloatOps F] (main_arg0 : FVec F S4x4096x4096 .f32) (main_arg1 : FVec F S4096x512 .f32) (main_arg2 : FVec F S512 .f32) (main_arg3 : FVec F S512x256 .f32) (main_arg4 : FVec F S256 .f32) (main_arg5 : FVec F S256x64 .f32) (main_arg6 : FVec F S64 .f32) : IVec S16384 1 :=
  let main_v0 : FVec F S16384x4096 .f32 := shapeCast S16384x4096 main_arg0 shapeCasts_S4x4096x4096_S16384x4096
  let main_v1 : FVec F S16384x512 .f32 := (fun l r => Host.dotGeneral dot_S16384x4096_S4096x512_S16384x512_1_0_0_1_n_n none l r) main_v0 main_arg1
  let main_v2 : FVec F S1x512 .f32 := broadcastInDim S1x512 ![1] bcast_S512_S1x512_1 main_arg2
  let main_v3 : FVec F S16384x512 .f32 := broadcastInDim S16384x512 ![0, 1] bcast_S1x512_S16384x512_0_1 main_v2
  let main_v4 : FVec F S16384x512 .f32 := addf main_v1 main_v3
  let main_cst : FVec F S_ .f32 := constant S_ .f32 0x00000000#32
  let main_v5 : FVec F S16384x512 .f32 := broadcastInDim S16384x512 ![] bcast_S_S16384x512 main_cst
  let main_v6 : FVec F S16384x512 .f32 := maximumf main_v4 main_v5
  let main_v7 : FVec F S16384x256 .f32 := (fun l r => Host.dotGeneral dot_S16384x512_S512x256_S16384x256_1_0_0_1_n_n none l r) main_v6 main_arg3
  let main_v8 : FVec F S1x256 .f32 := broadcastInDim S1x256 ![1] bcast_S256_S1x256_1 main_arg4
  let main_v9 : FVec F S16384x256 .f32 := broadcastInDim S16384x256 ![0, 1] bcast_S1x256_S16384x256_0_1 main_v8
  let main_v10 : FVec F S16384x256 .f32 := addf main_v7 main_v9
  let main_cst_0 : FVec F S_ .f32 := constant S_ .f32 0x00000000#32
  let main_v11 : FVec F S16384x256 .f32 := broadcastInDim S16384x256 ![] bcast_S_S16384x256 main_cst_0
  let main_v12 : FVec F S16384x256 .f32 := maximumf main_v10 main_v11
  let main_v13 : FVec F S16384x64 .f32 := (fun l r => Host.dotGeneral dot_S16384x256_S256x64_S16384x64_1_0_0_1_n_n none l r) main_v12 main_arg5
  let main_v14 : FVec F S1x64 .f32 := broadcastInDim S1x64 ![1] bcast_S64_S1x64_1 main_arg6
  let main_v15 : FVec F S16384x64 .f32 := broadcastInDim S16384x64 ![0, 1] bcast_S1x64_S16384x64_0_1 main_v14
  let main_v16 : FVec F S16384x64 .f32 := addf main_v13 main_v15
  let main_cst_1 : FVec F S_ .f32 := constant S_ .f32 0x3F800000#32
  let main_v17 : FVec F S16384x64 .f32 := broadcastInDim S16384x64 ![] bcast_S_S16384x64 main_cst_1
  let main_v18 : FVec F S16384x64 .f32 := Host.divf main_v16 main_v17
  let main_values : FVec F S16384x3 .f32 := (fun x => (Host.topK S16384x3 1 (FloatOps.cmpfTotal .gt) x sliceFits_S16384x64_S16384x3).1) main_v18
  let main_indices : IVec S16384x3 32 := (fun x => (Host.topK S16384x3 1 (FloatOps.cmpfTotal .gt) x sliceFits_S16384x64_S16384x3).2) main_v18
  fn_part1 (F := F) main_values
-- ==== Kernel.lean ====
abbrev S4x4096x4096 : Shape := ⟨3, ![4, 4096, 4096]⟩
abbrev S4096x512 : Shape := ⟨2, ![4096, 512]⟩
abbrev S512 : Shape := ⟨1, ![512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S16384x4096 : Shape := ⟨2, ![16384, 4096]⟩
abbrev S1x512 : Shape := ⟨2, ![1, 512]⟩
abbrev S1x256 : Shape := ⟨2, ![1, 256]⟩
abbrev S1x64 : Shape := ⟨2, ![1, 64]⟩
abbrev S16384x64 : Shape := ⟨2, ![16384, 64]⟩
abbrev S1x1 : Shape := ⟨2, ![1, 1]⟩
abbrev S1024x4096 : Shape := ⟨2, ![1024, 4096]⟩
abbrev S1024x64 : Shape := ⟨2, ![1024, 64]⟩
abbrev S256x1 : Shape := ⟨2, ![256, 1]⟩
abbrev S1 : Shape := ⟨1, ![1]⟩
abbrev S1024x512 : Shape := ⟨2, ![1024, 512]⟩
abbrev S1024x256 : Shape := ⟨2, ![1024, 256]⟩
abbrev S4x4096x64 : Shape := ⟨3, ![4, 4096, 64]⟩
abbrev S_ : Shape := ⟨0, ![]⟩

abbrev nBuf : Space → Nat
  | .hbm => 23
  | .vmem => 16
  | .smem => 0
  | _ => 0

abbrev bufTy : (tb : Table) → Fin (tcTables nBuf tb) → BufTy
  | .hbm, ⟨0, _⟩ => ⟨S4x4096x4096, .f32⟩
  | .hbm, ⟨1, _⟩ => ⟨S4096x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S16384x4096, .f32⟩
  | .hbm, ⟨8, _⟩ => ⟨S1x512, .f32⟩
  | .hbm, ⟨9, _⟩ => ⟨S1x256, .f32⟩
  | .hbm, ⟨10, _⟩ => ⟨S1x64, .f32⟩
  | .hbm, ⟨11, _⟩ => ⟨S16384x64, .f32⟩
  | .hbm, ⟨12, _⟩ => ⟨S1x64, .f32⟩
  | .hbm, ⟨13, _⟩ => ⟨S1x1, .f32⟩
  | .hbm, ⟨14, _⟩ => ⟨S1x1, .f32⟩
  | .hbm, ⟨15, _⟩ => ⟨S1x1, .f32⟩
  | .hbm, ⟨16, _⟩ => ⟨S1x64, .f32⟩
  | .hbm, ⟨17, _⟩ => ⟨S4x4096x64, .f32⟩
  | .hbm, ⟨18, _⟩ => ⟨S_, .f32⟩
  | .hbm, ⟨19, _⟩ => ⟨S_, .f32⟩
  | .hbm, ⟨20, _⟩ => ⟨S64, .f32⟩
  | .hbm, ⟨21, _⟩ => ⟨S_, .f32⟩
  | .hbm, ⟨22, _⟩ => ⟨S64, .f32⟩
  | .local _ .vmem, ⟨0, _⟩ => ⟨S1024x4096, .f32⟩
  | .local _ .vmem, ⟨1, _⟩ => ⟨S1024x4096, .f32⟩
  | .local _ .vmem, ⟨2, _⟩ => ⟨S4096x512, .f32⟩
  | .local _ .vmem, ⟨3, _⟩ => ⟨S1x512, .f32⟩
  | .local _ .vmem, ⟨4, _⟩ => ⟨S512x256, .f32⟩
  | .local _ .vmem, ⟨5, _⟩ => ⟨S1x256, .f32⟩
  | .local _ .vmem, ⟨6, _⟩ => ⟨S256x64, .f32⟩
  | .local _ .vmem, ⟨7, _⟩ => ⟨S1x64, .f32⟩
  | .local _ .vmem, ⟨8, _⟩ => ⟨S1024x64, .f32⟩
  | .local _ .vmem, ⟨9, _⟩ => ⟨S1024x64, .f32⟩
  | .local _ .vmem, ⟨10, _⟩ => ⟨S1x64, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | .local _ .vmem, ⟨14, _⟩ => ⟨S1x64, .f32⟩
  | .local _ .vmem, ⟨15, _⟩ => ⟨S1024x64, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v174 : BitVec 1 := Scalar.cmpi .eq arg0 c16_i32
  let v175 : BitVec 32 := Scalar.extui v174
  let c0_i32_78 : BitVec 32 := 0#32
  let v176 : BitVec 1 := Scalar.cmpi .ne v175 c0_i32_78
  v176

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S4x4096x4096 : Shape := ⟨3, ![4, 4096, 4096]⟩
abbrev S4096x512 : Shape := ⟨2, ![4096, 512]⟩
abbrev S512 : Shape := ⟨1, ![512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S16384x4096 : Shape := ⟨2, ![16384, 4096]⟩
abbrev S16384x512 : Shape := ⟨2, ![16384, 512]⟩
abbrev S1x512 : Shape := ⟨2, ![1, 512]⟩
abbrev S_ : Shape := ⟨0, ![]⟩
abbrev S16384x256 : Shape := ⟨2, ![16384, 256]⟩
abbrev S1x256 : Shape := ⟨2, ![1, 256]⟩
abbrev S16384x64 : Shape := ⟨2, ![16384, 64]⟩
abbrev S1x64 : Shape := ⟨2, ![1, 64]⟩
abbrev S16384 : Shape := ⟨1, ![16384]⟩
abbrev S16384x1 : Shape := ⟨2, ![16384, 1]⟩
abbrev S16384x2 : Shape := ⟨2, ![16384, 2]⟩
abbrev S16384x2x1 : Shape := ⟨3, ![16384, 2, 1]⟩
abbrev S16384x2x2 : Shape := ⟨3, ![16384, 2, 2]⟩
abbrev S4x4096x64 : Shape := ⟨3, ![4, 4096, 64]⟩
abbrev S4x4096 : Shape := ⟨2, ![4, 4096]⟩

abbrev nBuf : Space → Nat
  | .hbm => 111
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S16384x4096, .f32⟩
  | .hbm, ⟨8, _⟩ => ⟨S16384x512, .f32⟩
  | .hbm, ⟨9, _⟩ => ⟨S1x512, .f32⟩
  | .hbm, ⟨10, _⟩ => ⟨S16384x512, .f32⟩
  | .hbm, ⟨11, _⟩ => ⟨S16384x512, .f32⟩
  | .hbm, ⟨12, _⟩ => ⟨S_, .f32⟩
  | .hbm, ⟨13, _⟩ => ⟨S16384x512, .f32⟩
  | .hbm, ⟨14, _⟩ => ⟨S16384x512, .f32⟩
  | .hbm, ⟨15, _⟩ => ⟨S16384x256, .f32⟩
  | .hbm, ⟨16, _⟩ => ⟨S1x256, .f32⟩
  | .hbm, ⟨17, _⟩ => ⟨S16384x256, .f32⟩
  | .hbm, ⟨18, _⟩ => ⟨S16384x256, .f32⟩
  | .hbm, ⟨19, _⟩ => ⟨S_, .f32⟩
  | .hbm, ⟨20, _⟩ => ⟨S16384x256, .f32⟩
  | .hbm, ⟨21, _⟩ => ⟨S16384x256, .f32⟩
  | .hbm, ⟨22, _⟩ => ⟨S16384x64, .f32⟩
  | .hbm, ⟨23, _⟩ => ⟨S1x64, .f32⟩
  | .hbm, ⟨24, _⟩ => ⟨S16384x64, .f32⟩
  | .hbm, ⟨25, _⟩ => ⟨S16384x64, .f32⟩
  | .hbm, ⟨26, _⟩ => ⟨S_, .f32⟩
  | .hbm, ⟨27, _⟩ => ⟨S16384x64, .f32⟩
  | .hbm, ⟨28, _⟩ => ⟨S16384x64, .f32⟩
  | .hbm, ⟨29, _⟩ => ⟨S_, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S16384x1, .f32⟩
  | .hbm, ⟨35, _⟩ => ⟨S16384x64, .f32⟩
  | .hbm, ⟨36, _⟩ => ⟨S16384x64, .f32⟩
  | .hbm, ⟨37, _⟩ => ⟨S16384x64, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x64, .f32⟩
  | .hbm, ⟨42, _⟩ => ⟨S16384x64, .f32⟩
  | .hbm, ⟨43, _⟩ => ⟨S16384x2, .f32⟩
  | .hbm, ⟨44, _⟩ => ⟨S16384x2, .i32⟩
  | .hbm, ⟨45, _⟩ => ⟨S_, .f32⟩
  | .hbm, ⟨46, _⟩ => ⟨S16384x64, .f32⟩
  | .hbm, ⟨47, _⟩ => ⟨S16384, .i32⟩
  | .hbm, ⟨48, _⟩ => ⟨S16384x1, .i32⟩
  | .hbm, ⟨49, _⟩ => ⟨S_, .i32⟩
  | .hbm, ⟨50, _⟩ => ⟨S16384x1, .i32⟩
  | .hbm, ⟨51, _⟩ => ⟨S16384x1, .i1⟩
  | .hbm, ⟨52, _⟩ => ⟨S_, .i32⟩
  | .hbm, ⟨53, _⟩ => ⟨S16384x1, .i32⟩
  | .hbm, ⟨54, _⟩ => ⟨S16384x1, .i32⟩
  | .hbm, ⟨55, _⟩ => ⟨S16384x1, .i32⟩
  | .hbm, ⟨56, _⟩ => ⟨S_, .i32⟩
  | .hbm, ⟨57, _⟩ => ⟨S16384x2, .i32⟩
  | .hbm, ⟨58, _⟩ => ⟨S16384x2, .i1⟩
  | .hbm, ⟨59, _⟩ => ⟨S_, .i32⟩
  | .hbm, ⟨60, _⟩ => ⟨S16384x2, .i32⟩
  | .hbm, ⟨61, _⟩ => ⟨S16384x2, .i32⟩
  | .hbm, ⟨62, _⟩ => ⟨S16384x2, .i32⟩
  | .hbm, ⟨63, _⟩ => ⟨S16384x2, .i32⟩
  | .hbm, ⟨64, _⟩ => ⟨S16384x2x1, .i32⟩
  | .hbm, ⟨65, _⟩ => ⟨S16384x2x1, .i32⟩
  | .hbm, ⟨66, _⟩ => ⟨S16384x2x2, .i32⟩
  | .hbm, ⟨67, _⟩ => ⟨S_, .f32⟩
  | .hbm, ⟨68, _⟩ => ⟨S16384x2, .f32⟩
  | .hbm, ⟨69, _⟩ => ⟨S16384x64, .f32⟩
  | .hbm, ⟨70, _⟩ => ⟨S16384x64, .f32⟩
  | .hbm, ⟨71, _⟩ => ⟨S_, .f32⟩
  | .hbm, ⟨72, _⟩ => ⟨S16384, .f32⟩
  | .hbm, ⟨73, _⟩ => ⟨S16384x1, .f32⟩
  | .hbm, ⟨74, _⟩ => ⟨S16384x64, .f32⟩
  | .hbm, ⟨75, _⟩ => ⟨S16384x64, .f32⟩
  | .hbm, ⟨76, _⟩ => ⟨S4x4096x64, .f32⟩
  | .hbm, ⟨77, _⟩ => ⟨S_, .f32⟩
  | .hbm, ⟨78, _⟩ => ⟨S64, .f32⟩
  | .hbm, ⟨79, _⟩ => ⟨S_, .f32⟩
  | .hbm, ⟨80, _⟩ => ⟨S64, .f32⟩
  | .hbm, ⟨81, _⟩ => ⟨S64, .f32⟩
  | .hbm, ⟨82, _⟩ => ⟨S64, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S64, .f32⟩
  | .hbm, ⟨91, _⟩ => ⟨S_, .f32⟩
  | .hbm, ⟨92, _⟩ => ⟨S64, .f32⟩
  | .hbm, ⟨93, _⟩ => ⟨S64, .f32⟩
  | .hbm, ⟨94, _⟩ => ⟨S_, .f32⟩
  | .hbm, ⟨95, _⟩ => ⟨S64, .f32⟩
  | .hbm, ⟨96, _⟩ => ⟨S64, .f32⟩
  | .hbm, ⟨97, _⟩ => ⟨S64, .f32⟩
  | .hbm, ⟨98, _⟩ => ⟨S64, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S64, .f32⟩
  | .hbm, ⟨104, _⟩ => ⟨S64, .f32⟩
  | .hbm, ⟨105, _⟩ => ⟨S_, .f32⟩
  | .hbm, ⟨106, _⟩ => ⟨S4x4096, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_values : Ref sig .tc := ⟨.hbm, 43, rfl⟩
abbrev main_indices : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_13 : Ref sig .tc := ⟨.hbm, 83, rfl⟩
abbrev main_v59 : Ref sig .tc := ⟨.hbm, 84, rfl⟩
abbrev main_cst_14 : Ref sig .tc := ⟨.hbm, 85, rfl⟩
abbrev main_v60 : Ref sig .tc := ⟨.hbm, 86, rfl⟩
abbrev main_cst_15 : Ref sig .tc := ⟨.hbm, 87, rfl⟩
abbrev main_v61 : Ref sig .tc := ⟨.hbm, 88, rfl⟩
abbrev main_cst_16 : Ref sig .tc := ⟨.hbm, 89, rfl⟩
abbrev main_v62 : Ref sig .tc := ⟨.hbm, 90, rfl⟩
abbrev main_cst_17 : Ref sig .tc := ⟨.hbm, 91, rfl⟩
abbrev main_v63 : Ref sig .tc := ⟨.hbm, 92, rfl⟩
abbrev main_v64 : Ref sig .tc := ⟨.hbm, 93, rfl⟩
abbrev main_cst_18 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_19 : Ref sig .tc := ⟨.hbm, 99, rfl⟩
abbrev main_v69 : Ref sig .tc := ⟨.hbm, 100, rfl⟩
abbrev main_v70 : Ref sig .tc := ⟨.hbm, 101, rfl⟩
abbrev main_cst_20 : Ref sig .tc := ⟨.hbm, 102, rfl⟩
abbrev main_v71 : Ref sig .tc := ⟨.hbm, 103, rfl⟩
abbrev main_v72 : Ref sig .tc := ⟨.hbm, 104, rfl⟩
abbrev main_cst_21 : Ref sig .tc := ⟨.hbm, 105, rfl⟩
abbrev main_v73 : Ref sig .tc := ⟨.hbm, 106, rfl⟩
abbrev main_cst_22 : Ref sig .tc := ⟨.hbm, 107, rfl⟩
abbrev main_v74 : Ref sig .tc := ⟨.hbm, 108, rfl⟩
abbrev main_cst_23 : Ref sig .tc := ⟨.hbm, 109, rfl⟩
abbrev main_v75 : Ref sig .tc := ⟨.hbm, 110, rfl⟩

abbrev nD : Nat := 1
abbrev τ : Topo := Topo.v7x

variable {F : FTy → Type} [FloatOps F]
-- ==== Proof.Body.lean ====
module

public import proofs.«01_k».proof.Proof.Gen.KernelIdeal.Frame
public import Idealize.ShloMosaic.Lib.Pipeline.Value
public import Idealize.ShloMosaic.Lib.Tactic

@[expose] public section

/-! # What the kernel's body leaves in its buffers

  The kernel runs at 17 grid points.  At each it reads the logits its scratch holds (1024 rows of 64), turns
  them into routing weights four chunks of 256 rows at a time, adds the chunks' column sums and confidences to
  the running totals, and then overwrites the scratch by the logits of the point's own block.  Each theorem below
  states one buffer after the body as a plain term of what the buffers held before. -/

set_option maxRecDepth 16384

noncomputable section

namespace Cert.KernelIdeal.Body

open Cert.KernelIdeal Cert.KernelIdeal.Gen
open Idealize.ShloMosaic Idealize.ShloMosaic.TcCoe Idealize.SL.Sem

/-- Zero offsets. -/
theorem hz : (![0, 0] : Fin 2 → Nat) = fun _ => 0 := funext fun a => by fin_cases a <;> rfl

variable {F : FTy → Type} [FloatOps F]

/-- The rows `256 k` to `256 k + 255` of the logits, `k = 0`. -/
abbrev chunk0 (xs : Vec F S1024x64 .f32) : Vec F S256x64 .f32 := View.ld xs (Rect.unit ![0, 0] ![256, 64] inb_S1024x64_S256x64_0_0)
/-- The same at `k = 1`. -/
abbrev chunk1 (xs : Vec F S1024x64 .f32) : Vec F S256x64 .f32 := View.ld xs (Rect.unit ![256, 0] ![256, 64] inb_S1024x64_S256x64_256_0)
/-- The same at `k = 2`. -/
abbrev chunk2 (xs : Vec F S1024x64 .f32) : Vec F S256x64 .f32 := View.ld xs (Rect.unit ![512, 0] ![256, 64] inb_S1024x64_S256x64_512_0)
/-- The same at `k = 3`. -/
abbrev chunk3 (xs : Vec F S1024x64 .f32) : Vec F S256x64 .f32 := View.ld xs (Rect.unit ![768, 0] ![256, 64] inb_S1024x64_S256x64_768_0)

/-- The running column sums after the body: `xo` and the column sums of the weights of the four chunks of logits,
    these counted at every point but the first. -/
def usageOf (i : grid0.Coords) (v0 v1 v2 v3 : Vec F S256x64 .f32) (xo : Vec F S1x64 .f32) : Vec F S1x64 .f32 :=
  k0_pay49 (k0_pay10 i) (k0_pay37 (k0_pay28 (k0_pay19 v0) v1) (k0_pay30 v2) (k0_pay31 v2) (k0_pay32 v2) (k0_pay33 v2))
    (k0_pay40 v3) (k0_pay44 v3) (k0_pay45 v3) (k0_pay46 v3) k0_pay47 xo

/-- The running confidence after the body: `xo` and the sums of the first weights of the four chunks of logits, these
    counted at every point but the first. -/
def confOf (i : grid0.Coords) (v0 v1 v2 v3 : Vec F S256x64 .f32) (xo : Vec F S1x1 .f32) : Vec F S1x1 .f32 :=
  k0_pay50 (k0_pay10 i) (k0_pay38 (k0_pay29 k0_pay11 (k0_pay20 v0) v1) (k0_pay30 v2) (k0_pay33 v2)) (k0_pay44 v3) xo

/-- `usageOf` of the four chunks of the logits `xs`. -/
abbrev usageNext (i : grid0.Coords) (xs : Vec F S1024x64 .f32) (xo : Vec F S1x64 .f32) : Vec F S1x64 .f32 :=
  usageOf i (chunk0 xs) (chunk1 xs) (chunk2 xs) (chunk3 xs) xo

/-- `confOf` of the four chunks of the logits `xs`. -/
abbrev confNext (i : grid0.Coords) (xs : Vec F S1024x64 .f32) (xo : Vec F S1x1 .f32) : Vec F S1x1 .f32 :=
  confOf i (chunk0 xs) (chunk1 xs) (chunk2 xs) (chunk3 xs) xo

/-- The routing weights of the logits `xs`, as the four stores leave them, the last first. -/
def weightPieces (xs : Vec F S1024x64 .f32) : List (View.Piece (Elt F) S1024x64 .f32) :=
  [⟨Rect.unit ![768, 0] ![256, 64] inb_S1024x64_S256x64_768_0,
      k0_pay48 (k0_pay40 (chunk3 xs)) (k0_pay44 (chunk3 xs)) (k0_pay45 (chunk3 xs)) (k0_pay46 (chunk3 xs)) k0_pay47⟩,
    ⟨Rect.unit ![512, 0] ![256, 64] inb_S1024x64_S256x64_512_0,
      k0_pay36 (k0_pay30 (chunk2 xs)) (k0_pay31 (chunk2 xs)) (k0_pay32 (chunk2 xs)) (k0_pay33 (chunk2 xs))⟩,
    ⟨Rect.unit ![256, 0] ![256, 64] inb_S1024x64_S256x64_256_0, k0_pay27 (chunk1 xs)⟩,
    ⟨Rect.unit ![0, 0] ![256, 64] inb_S1024x64_S256x64_0_0, k0_pay18 (chunk0 xs)⟩]

/-- The logits of a block: the three layers on the block `x0` and the weights and biases `x1` to `x6`. -/
def logitsOf (x0 : Vec F S1024x4096 .f32) (x1 : Vec F S4096x512 .f32) (x2 : Vec F S1x512 .f32) (x3 : Vec F S512x256 .f32) (x4 : Vec F S1x256 .f32) (x5 : Vec F S256x64 .f32) (x6 : Vec F S1x64 .f32) : Vec F S1024x64 .f32 :=
  k0_pay1 (k0_pay51 x0 x1 x2) x3 (constant S1024x256 .f32 0x00000000#32) x4 x5 x6

section
variable (c : Dev nD) (i : grid0.Coords) (arg1 : Memref sig .tc .vmem S1024x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1x64 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x64 .f32) (harg13 : arg13.IsWhole) (arg14 : Memref sig .tc .vmem S1024x64 .f32) (harg14 : arg14.IsWhole) (hc0 : cond0_0 i) (hc1 : ¬cond0_1 i)
  (x0 : Vec F S1024x4096 .f32) (x1 : Vec F S4096x512 .f32) (x2 : Vec F S1x512 .f32) (x3 : Vec F S512x256 .f32) (x4 : Vec F S1x256 .f32) (x5 : Vec F S256x64 .f32) (x6 : Vec F S1x64 .f32)

/-- Case A: the logits of the block. -/
theorem sout0_A_0_eq :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = logitsOf x0 x1 x2 x3 x4 x5 x6 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_cons_unit_zero (S := S1024x64) hz]
  simp only [View.readAt_eq_ld, harg1.read_unread, harg2.read_unread, harg3.read_unread, harg4.read_unread, harg5.read_unread, harg6.read_unread, harg7.read_unread, View.ld_unit_zero (S := S1024x4096) hz, View.ld_unit_zero (S := S4096x512) hz, View.ld_unit_zero (S := S1x512) hz, View.ld_unit_zero (S := S512x256) hz, View.ld_unit_zero (S := S1x256) hz, View.ld_unit_zero (S := S256x64) hz, View.ld_unit_zero (S := S1x64) hz, View.ld_unit_zero (S := S1x1) hz]
  rfl

/-- Case A: the running column sums. -/
theorem out0_A_8_eq :
    ∃ v0 v1 v2 v3 : Vec F S256x64 .f32, out0_A_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = usageOf i v0 v1 v2 v3 k0_pay7 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_cons_unit_zero (S := S1x64) hz, View.readCov_unit_zero (S := S1x64) _ hz]
  exact ⟨_, _, _, _, rfl⟩

/-- Case A: the running confidence. -/
theorem out0_A_9_eq :
    ∃ v0 v1 v2 v3 : Vec F S256x64 .f32, out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = confOf i v0 v1 v2 v3 k0_pay8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_cons_unit_zero (S := S1x1) hz, View.readCov_unit_zero (S := S1x1) _ hz]
  exact ⟨_, _, _, _, rfl⟩
end

section
variable (c : Dev nD) (i : grid0.Coords) (arg1 : Memref sig .tc .vmem S1024x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1x64 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x64 .f32) (harg13 : arg13.IsWhole) (arg14 : Memref sig .tc .vmem S1024x64 .f32) (harg14 : arg14.IsWhole) (hc0 : ¬cond0_0 i) (hc1 : ¬cond0_1 i)
  (x0 : Vec F S1024x4096 .f32) (x1 : Vec F S4096x512 .f32) (x2 : Vec F S1x512 .f32) (x3 : Vec F S512x256 .f32) (x4 : Vec F S1x256 .f32) (x5 : Vec F S256x64 .f32) (x6 : Vec F S1x64 .f32) (xo8 : Vec F S1x64 .f32) (xo9 : Vec F S1x1 .f32) (xs0 : Vec F S1024x64 .f32)

/-- Case B: the routing weights of the logits before. -/
theorem out0_B_7_eq :
    out0_B_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xo9 xs0 = View.canon (weightPieces xs0) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xo9 xs0)]
  unfold kernelRun0_B
  dsimp only
  sl_unfold_words
  simp only [View.readAt_eq_ld, harg14.read_unread]
  rfl

/-- Case B: the logits of the block. -/
theorem sout0_B_0_eq :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xo9 xs0 = logitsOf x0 x1 x2 x3 x4 x5 x6 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xo9 xs0)]
  unfold kernelRun0_B
  dsimp only
  sl_unfold_words
  rw [View.canon_unit_zero (S := S1024x64) hz]
  simp only [View.readAt_eq_ld, harg1.read_unread, harg2.read_unread, harg3.read_unread, harg4.read_unread, harg5.read_unread, harg6.read_unread, harg7.read_unread, View.ld_unit_zero (S := S1024x4096) hz, View.ld_unit_zero (S := S4096x512) hz, View.ld_unit_zero (S := S1x512) hz, View.ld_unit_zero (S := S512x256) hz, View.ld_unit_zero (S := S1x256) hz, View.ld_unit_zero (S := S256x64) hz, View.ld_unit_zero (S := S1x64) hz, View.ld_unit_zero (S := S1x1) hz]
  rfl

/-- Case B: the running column sums. -/
theorem out0_B_8_eq :
    out0_B_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xo9 xs0 = usageNext i xs0 xo8 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xo9 xs0)]
  unfold kernelRun0_B
  dsimp only
  sl_unfold_words
  rw [View.canon_unit_zero (S := S1x64) hz]
  simp only [View.readAt_eq_ld, harg9.read_unread, harg14.read_unread, View.ld_unit_zero (S := S1024x4096) hz, View.ld_unit_zero (S := S4096x512) hz, View.ld_unit_zero (S := S1x512) hz, View.ld_unit_zero (S := S512x256) hz, View.ld_unit_zero (S := S1x256) hz, View.ld_unit_zero (S := S256x64) hz, View.ld_unit_zero (S := S1x64) hz, View.ld_unit_zero (S := S1x1) hz]
  rfl

/-- Case B: the running confidence. -/
theorem out0_B_9_eq :
    out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xo9 xs0 = confNext i xs0 xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xo9 xs0)]
  unfold kernelRun0_B
  dsimp only
  sl_unfold_words
  rw [View.canon_unit_zero (S := S1x1) hz]
  simp only [View.readAt_eq_ld, harg10.read_unread, harg14.read_unread, View.ld_unit_zero (S := S1024x4096) hz, View.ld_unit_zero (S := S4096x512) hz, View.ld_unit_zero (S := S1x512) hz, View.ld_unit_zero (S := S512x256) hz, View.ld_unit_zero (S := S1x256) hz, View.ld_unit_zero (S := S256x64) hz, View.ld_unit_zero (S := S1x64) hz, View.ld_unit_zero (S := S1x1) hz]
  rfl
end

section
variable (c : Dev nD) (i : grid0.Coords) (arg1 : Memref sig .tc .vmem S1024x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1x64 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x64 .f32) (harg13 : arg13.IsWhole) (arg14 : Memref sig .tc .vmem S1024x64 .f32) (harg14 : arg14.IsWhole) (hc0 : ¬cond0_0 i) (hc1 : cond0_1 i)
  (x0 : Vec F S1024x4096 .f32) (x1 : Vec F S4096x512 .f32) (x2 : Vec F S1x512 .f32) (x3 : Vec F S512x256 .f32) (x4 : Vec F S1x256 .f32) (x5 : Vec F S256x64 .f32) (x6 : Vec F S1x64 .f32) (xo8 : Vec F S1x64 .f32) (xo9 : Vec F S1x1 .f32) (xs0 : Vec F S1024x64 .f32)

/-- Case C: the routing weights of the logits before. -/
theorem out0_C_7_eq :
    out0_C_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xo9 xs0 = View.canon (weightPieces xs0) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xo9 xs0)]
  unfold kernelRun0_C
  dsimp only
  sl_unfold_words
  simp only [View.readAt_eq_ld, harg14.read_unread]
  rfl

/-- Case C: the logits of the block. -/
theorem sout0_C_0_eq :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xo9 xs0 = logitsOf x0 x1 x2 x3 x4 x5 x6 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xo9 xs0)]
  unfold kernelRun0_C
  dsimp only
  sl_unfold_words
  rw [View.canon_unit_zero (S := S1024x64) hz]
  simp only [View.readAt_eq_ld, harg1.read_unread, harg2.read_unread, harg3.read_unread, harg4.read_unread, harg5.read_unread, harg6.read_unread, harg7.read_unread, View.ld_unit_zero (S := S1024x4096) hz, View.ld_unit_zero (S := S4096x512) hz, View.ld_unit_zero (S := S1x512) hz, View.ld_unit_zero (S := S512x256) hz, View.ld_unit_zero (S := S1x256) hz, View.ld_unit_zero (S := S256x64) hz, View.ld_unit_zero (S := S1x64) hz, View.ld_unit_zero (S := S1x1) hz]
  rfl

/-- Case C: the running column sums. -/
theorem out0_C_8_eq :
    out0_C_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xo9 xs0 = usageNext i xs0 xo8 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xo9 xs0)]
  unfold kernelRun0_C
  dsimp only
  sl_unfold_words
  rw [View.canon_unit_zero (S := S1x64) hz]
  simp only [View.readAt_eq_ld, harg9.read_unread, harg14.read_unread, View.ld_unit_zero (S := S1024x4096) hz, View.ld_unit_zero (S := S4096x512) hz, View.ld_unit_zero (S := S1x512) hz, View.ld_unit_zero (S := S512x256) hz, View.ld_unit_zero (S := S1x256) hz, View.ld_unit_zero (S := S256x64) hz, View.ld_unit_zero (S := S1x64) hz, View.ld_unit_zero (S := S1x1) hz]
  rfl

/-- Case C: the running confidence. -/
theorem out0_C_9_eq :
    out0_C_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xo9 xs0 = k0_pay6 (confNext i xs0 xo9) := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xo9 xs0)]
  unfold kernelRun0_C
  dsimp only
  sl_unfold_words
  rw [View.canon_cons_unit_zero (S := S1x1) hz, View.readCov_unit_zero (S := S1x1) _ hz]
  simp only [View.readAt_eq_ld, harg10.read_unread, harg14.read_unread, View.ld_unit_zero (S := S1024x4096) hz, View.ld_unit_zero (S := S4096x512) hz, View.ld_unit_zero (S := S1x512) hz, View.ld_unit_zero (S := S512x256) hz, View.ld_unit_zero (S := S1x256) hz, View.ld_unit_zero (S := S256x64) hz, View.ld_unit_zero (S := S1x64) hz, View.ld_unit_zero (S := S1x1) hz]
  rfl

/-- Case C: the load-balance loss of the final column sums. -/
theorem out0_C_10_eq :
    out0_C_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xo9 xs0 = k0_pay4 (usageNext i xs0 xo8) := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xo9 xs0)]
  unfold kernelRun0_C
  dsimp only
  sl_unfold_words
  rw [View.canon_unit_zero (S := S1x1) hz, View.readCov_unit_zero (S := S1x64) _ hz]
  simp only [View.readAt_eq_ld, harg9.read_unread, harg14.read_unread, View.ld_unit_zero (S := S1024x4096) hz, View.ld_unit_zero (S := S4096x512) hz, View.ld_unit_zero (S := S1x512) hz, View.ld_unit_zero (S := S512x256) hz, View.ld_unit_zero (S := S1x256) hz, View.ld_unit_zero (S := S256x64) hz, View.ld_unit_zero (S := S1x64) hz, View.ld_unit_zero (S := S1x1) hz]
  rfl

/-- Case C: the entropy of the final column sums. -/
theorem out0_C_11_eq :
    out0_C_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xo9 xs0 = k0_pay5 (usageNext i xs0 xo8) := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xo9 xs0)]
  unfold kernelRun0_C
  dsimp only
  sl_unfold_words
  rw [View.canon_unit_zero (S := S1x1) hz, View.readCov_unit_zero (S := S1x64) _ hz]
  simp only [View.readAt_eq_ld, harg9.read_unread, harg14.read_unread, View.ld_unit_zero (S := S1024x4096) hz, View.ld_unit_zero (S := S4096x512) hz, View.ld_unit_zero (S := S1x512) hz, View.ld_unit_zero (S := S512x256) hz, View.ld_unit_zero (S := S1x256) hz, View.ld_unit_zero (S := S256x64) hz, View.ld_unit_zero (S := S1x64) hz, View.ld_unit_zero (S := S1x1) hz]
  rfl

/-- Case C: the utilisation, from the final column sums. -/
theorem out0_C_12_eq :
    out0_C_12 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xo9 xs0 = k0_pay3 (usageNext i xs0 xo8) := by
  unfold out0_C_12
  rw [View.read_writes_eq_canon _ _ _ (cover0_C_12 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xo9 xs0)]
  unfold kernelRun0_C
  dsimp only
  sl_unfold_words
  rw [View.canon_unit_zero (S := S1x64) hz, View.readCov_unit_zero (S := S1x64) _ hz]
  simp only [View.readAt_eq_ld, harg9.read_unread, harg14.read_unread, View.ld_unit_zero (S := S1024x4096) hz, View.ld_unit_zero (S := S4096x512) hz, View.ld_unit_zero (S := S1x512) hz, View.ld_unit_zero (S := S512x256) hz, View.ld_unit_zero (S := S1x256) hz, View.ld_unit_zero (S := S256x64) hz, View.ld_unit_zero (S := S1x64) hz, View.ld_unit_zero (S := S1x1) hz]
  rfl
end

end Cert.KernelIdeal.Body

end
-- ==== Proof.Row.lean ====
module

public import Idealize.ShloMosaic.PureOps.Ideal
public import Idealize.ShloMosaic.PureOps.Ideal.Laws
public import Idealize.ShloMosaic.Lib.SortFacts

@[expose] public section

/-! # One row of logits, over the extended reals

  The kernel finds the greatest logit, hides it and finds the greatest of the rest, and weighs the two by the ratio of
  their exponentials.  The reference takes the softmax of the row, keeps the two entries its top-2 names and divides
  by their sum.  On a row whose greatest entry is finite and whose three greatest entries are distinct the two give
  the same real weights (`kernelRow_eq`, `maskedRow_eq`). -/

noncomputable section

namespace Cert.Router

open Idealize.ShloMosaic

/-- The row's entry at `a` is finite and the greatest, the one at `b` the next, and every other entry is below. -/
structure Top2 (l : Fin 64 → EReal) (a b : Fin 64) : Prop where
  fin : l a < ⊤
  lt : l b < l a
  rest : ∀ e, e ≠ a → e ≠ b → l e < l b

/-- The ratio of the second greatest entry's exponential to the greatest's. -/
def ratio (l : Fin 64 → EReal) (a b : Fin 64) : ℝ := Real.exp ((l b).toReal - (l a).toReal)

/-- The routing weights of a row: `1 / (1 + r)` at the greatest entry, `r / (1 + r)` at the second, else `0`. -/
def weight (l : Fin 64 → EReal) (a b e : Fin 64) : ℝ :=
  if e = a then 1 / (1 + ratio l a b) else if e = b then ratio l a b / (1 + ratio l a b) else 0

/-- The greatest entry of a row. -/
def rowMax (l : Fin 64 → EReal) : EReal := Finset.univ.fold max ⊥ l

/-- The row with its greatest entries replaced by `-∞`. -/
def hidden (l : Fin 64 → EReal) (e : Fin 64) : EReal := if l e = rowMax l then ⊥ else l e

/-- The kernel's ratio. -/
def kernelRatio (l : Fin 64 → EReal) : EReal := Ideal.exp (rowMax (hidden l) - rowMax l)

/-- The kernel's first weight. -/
def kernelTop (l : Fin 64 → EReal) : EReal := Ideal.div 1 (1 + kernelRatio l)

/-- The kernel's weights of a row. -/
def kernelRow (l : Fin 64 → EReal) (e : Fin 64) : EReal :=
  if l e = rowMax l then kernelTop l else if hidden l e = rowMax (hidden l) then kernelRatio l * kernelTop l else 0

/-- The softmax of a row, as the reference spells it. -/
def softmax (l : Fin 64 → EReal) (e : Fin 64) : EReal :=
  Ideal.div (Ideal.exp (l e - rowMax l)) (∑ e', Ideal.exp (l e' - rowMax l))

/-- The softmax where the mask of `a` and `b` keeps it. -/
def masked (l : Fin 64 → EReal) (a b e : Fin 64) : EReal := softmax l e * (if e = a ∨ e = b then 1 else 0)

/-- The positions a stable sort of a row, greatest first, takes its entries from. -/
def pos (l : Fin 64 → EReal) : Fin 64 → Fin 64 :=
  sortedFrom (fun k k' => FloatOps.cmpfTotal (F := Ideal) (φ := .f32) .gt (l k) (l k') == 1#1)

/-- An entry that no other exceeds is the row's greatest. -/
theorem rowMax_eq {l : Fin 64 → EReal} {a : Fin 64} (h : ∀ e, l e ≤ l a) : rowMax l = l a := by
  unfold rowMax
  refine le_antisymm ?_ ?_
  · exact (Finset.fold_max_le _).mpr ⟨bot_le, fun e _ => h e⟩
  · exact (Finset.le_fold_max _).mpr (Or.inr ⟨a, Finset.mem_univ a, le_rfl⟩)

section
variable {l : Fin 64 → EReal} {a b : Fin 64} (h : Top2 l a b)
include h

/-- The two columns differ. -/
theorem Top2.ne : a ≠ b := fun e => absurd h.lt (by rw [e]; exact lt_irrefl _)

/-- No entry exceeds the greatest. -/
theorem Top2.le_top (e : Fin 64) : l e ≤ l a := by
  by_cases ha : e = a
  · rw [ha]
  by_cases hb : e = b
  · rw [hb]; exact h.lt.le
  · exact ((h.rest e ha hb).trans h.lt).le

/-- Every other entry is below the greatest. -/
theorem Top2.lt_top {e : Fin 64} (ha : e ≠ a) : l e < l a := by
  by_cases hb : e = b
  · rw [hb]; exact h.lt
  · exact (h.rest e ha hb).trans h.lt

/-- The second greatest entry is not −∞. -/
theorem Top2.bot_lt : ⊥ < l b := by
  obtain ⟨e, ha, hb⟩ : ∃ e : Fin 64, e ≠ a ∧ e ≠ b := by
    by_contra hc
    push Not at hc
    have h0 := hc 0; have h1 := hc 1; have h2 := hc 2
    omega
  exact lt_of_le_of_lt bot_le (h.rest e ha hb)

/-- The greatest entry is a real number. -/
theorem Top2.coe_a : l a = ((l a).toReal : EReal) :=
  (EReal.coe_toReal h.fin.ne (h.bot_lt.trans h.lt).ne').symm

/-- The second greatest entry is a real number. -/
theorem Top2.coe_b : l b = ((l b).toReal : EReal) :=
  (EReal.coe_toReal (h.lt.trans h.fin).ne h.bot_lt.ne').symm

/-- The row's greatest entry is the one at `a`. -/
theorem Top2.rowMax : rowMax l = l a := rowMax_eq h.le_top

/-- Hiding the greatest entries hides the one at `a` alone. -/
theorem Top2.hidden (e : Fin 64) : hidden l e = if e = a then ⊥ else l e := by
  unfold Router.hidden
  rw [h.rowMax]
  by_cases ha : e = a
  · simp [ha]
  · rw [if_neg ha, if_neg (h.lt_top ha).ne]

/-- The greatest of what is left is the entry at `b`. -/
theorem Top2.rowMax_hidden : Router.rowMax (Router.hidden l) = l b := by
  have hb : Router.hidden l b = l b := by rw [h.hidden, if_neg h.ne.symm]
  rw [← hb]
  refine rowMax_eq fun e => ?_
  rw [hb, h.hidden]
  by_cases ha : e = a
  · rw [if_pos ha]; exact bot_le
  rw [if_neg ha]
  by_cases hb : e = b
  · rw [hb]
  · exact (h.rest e ha hb).le

/-- The kernel's ratio is the real ratio. -/
theorem Top2.kernelRatio : kernelRatio l = (ratio l a b : EReal) := by
  unfold Router.kernelRatio ratio
  rw [h.rowMax_hidden, h.rowMax, h.coe_a, h.coe_b, ← EReal.coe_sub, Ideal.exp_coe]
  simp only [EReal.toReal_coe]

omit h in
/-- The ratio is positive. -/
theorem ratio_pos : 0 < ratio l a b := Real.exp_pos _

/-- The kernel's first weight is `1 / (1 + r)`. -/
theorem Top2.kernelTop : kernelTop l = ((1 / (1 + ratio l a b) : ℝ) : EReal) := by
  have hr := ratio_pos (l := l) (a := a) (b := b)
  unfold Router.kernelTop
  rw [h.kernelRatio, ← EReal.coe_one, ← EReal.coe_add, Ideal.div_coe (by positivity), ← EReal.coe_mul, one_mul]

/-- The kernel's row is the weights. -/
theorem kernelRow_eq (e : Fin 64) : kernelRow l e = (weight l a b e : EReal) := by
  have hr := ratio_pos (l := l) (a := a) (b := b)
  unfold kernelRow weight
  rw [h.rowMax, h.rowMax_hidden, h.hidden, h.kernelTop, h.kernelRatio]
  by_cases ha : e = a
  · rw [if_pos (by rw [ha]), if_pos ha]
  rw [if_neg (h.lt_top ha).ne, if_neg ha, if_neg ha]
  by_cases hb : e = b
  · rw [if_pos (by rw [hb]), if_pos hb, ← EReal.coe_mul]; congr 1; ring
  · rw [if_neg (h.rest e ha hb).ne, if_neg hb]; rfl

/-- The greatest weight of a row is the kernel's first weight. -/
theorem rowMax_weight : Router.rowMax (fun e => (weight l a b e : EReal)) = ((1 / (1 + ratio l a b) : ℝ) : EReal) := by
  have hr := ratio_pos (l := l) (a := a) (b := b)
  have h1 : ratio l a b ≤ 1 := by
    unfold ratio
    rw [Real.exp_le_one_iff, sub_nonpos]
    have := h.lt.le
    rw [h.coe_a, h.coe_b] at this
    simpa using this
  have ha : weight l a b a = 1 / (1 + ratio l a b) := if_pos rfl
  rw [← ha]
  refine rowMax_eq (l := fun e => (weight l a b e : EReal)) fun e => ?_
  simp only [EReal.coe_le_coe_iff]
  rw [ha]; unfold weight
  split_ifs
  · exact le_rfl
  · gcongr
  · positivity

/-- The exponential of an entry less the greatest, a real number. -/
def expo (l : Fin 64 → EReal) (a e : Fin 64) : ℝ := if l e = ⊥ then 0 else Real.exp ((l e).toReal - (l a).toReal)

omit h in
/-- The exponentials are not negative. -/
theorem expo_nonneg (e : Fin 64) : 0 ≤ expo l a e := by
  unfold expo; split_ifs
  · exact le_rfl
  · exact (Real.exp_pos _).le

/-- The softmax's exponentials are real numbers. -/
theorem Top2.exp_sub (e : Fin 64) : Ideal.exp (l e - Router.rowMax l) = (expo l a e : EReal) := by
  rw [h.rowMax]
  unfold expo
  by_cases hb : l e = ⊥
  · rw [if_pos hb, hb, h.coe_a, EReal.bot_sub, Ideal.exp_bot]; rfl
  · have ht : l e ≠ ⊤ := ((h.le_top e).trans_lt h.fin).ne
    rw [if_neg hb, h.coe_a, ← EReal.coe_toReal ht hb, ← EReal.coe_sub, Ideal.exp_coe]
    simp only [EReal.toReal_coe]

/-- The greatest entry's exponential is 1. -/
theorem Top2.expo_a : expo l a a = 1 := by
  unfold expo
  rw [if_neg (h.bot_lt.trans h.lt).ne', sub_self, Real.exp_zero]

/-- The second entry's exponential is the ratio. -/
theorem Top2.expo_b : expo l a b = ratio l a b := by
  unfold expo ratio
  rw [if_neg h.bot_lt.ne']

/-- The exponentials' sum is positive. -/
theorem Top2.sum_pos : 0 < ∑ e, expo l a e :=
  lt_of_lt_of_le one_pos (by
    rw [← h.expo_a]
    exact Finset.single_le_sum (f := fun e => expo l a e) (fun e _ => expo_nonneg e) (Finset.mem_univ a))

omit h in
/-- A sum of reals, taken as extended reals, is the real sum. -/
theorem sum_coe {ι : Type*} (s : Finset ι) (f : ι → ℝ) : ∑ e ∈ s, (f e : EReal) = ((∑ e ∈ s, f e : ℝ) : EReal) := by
  classical
  induction s using Finset.induction_on with
  | empty => simp
  | insert i s hi ih => rw [Finset.sum_insert hi, Finset.sum_insert hi, ih, EReal.coe_add]

/-- The softmax of the row, real. -/
theorem Top2.softmax (e : Fin 64) : softmax l e = ((expo l a e / ∑ e', expo l a e' : ℝ) : EReal) := by
  unfold Router.softmax
  simp only [h.exp_sub]
  rw [sum_coe, Ideal.div_coe h.sum_pos.ne', ← EReal.coe_mul]
  congr 1; ring

/-- The masked softmax over its own sum is the weights. -/
theorem maskedRow_eq (e : Fin 64) : Ideal.div (masked l a b e) (∑ e', masked l a b e') = (weight l a b e : EReal) := by
  have hr := ratio_pos (l := l) (a := a) (b := b)
  have hS := h.sum_pos
  have hm : ∀ e, masked l a b e
      = ((if e = a then 1 / ∑ e', expo l a e' else if e = b then ratio l a b / ∑ e', expo l a e' else 0 : ℝ) : EReal) := by
    intro e
    unfold masked
    rw [h.softmax]
    by_cases ha : e = a
    · rw [if_pos (Or.inl ha), if_pos ha, mul_one, ha, h.expo_a]
    by_cases hb : e = b
    · rw [if_pos (Or.inr hb), if_neg ha, if_pos hb, mul_one, hb, h.expo_b]
    · rw [if_neg (by tauto), if_neg ha, if_neg hb, mul_zero]; rfl
  have hsum : ∑ e, (if e = a then 1 / ∑ e', expo l a e' else if e = b then ratio l a b / ∑ e', expo l a e' else 0 : ℝ)
      = (1 + ratio l a b) / ∑ e', expo l a e' := by
    have : ∀ e, (if e = a then 1 / ∑ e', expo l a e' else if e = b then ratio l a b / ∑ e', expo l a e' else 0 : ℝ)
        = (if e = a then 1 / ∑ e', expo l a e' else 0) + (if e = b then ratio l a b / ∑ e', expo l a e' else 0) := by
      intro e
      by_cases ha : e = a
      · rw [if_pos ha, if_pos ha, if_neg (by rw [ha]; exact h.ne), add_zero]
      · rw [if_neg ha, if_neg ha, zero_add]
    rw [Finset.sum_congr rfl fun e _ => this e, Finset.sum_add_distrib, Finset.sum_ite_eq' , Finset.sum_ite_eq',
      if_pos (Finset.mem_univ a), if_pos (Finset.mem_univ b)]
    ring
  simp only [hm]
  rw [sum_coe, hsum, Ideal.div_coe (by positivity), ← EReal.coe_mul]
  unfold weight
  congr 1
  split_ifs
  · field_simp
  · field_simp
  · ring

end

/-! ## The order of the entries -/

/-- The comparison that orders top-k, as a decision. -/
theorem gt_iff (x y : EReal) : (FloatOps.cmpfTotal (F := Ideal) (φ := .f32) .gt x y == 1#1) = decide (y < x) := by
  show (Ideal.cmpTotal .gt x y == 1#1) = _
  by_cases hc : y < x <;> simp [Ideal.cmpTotal, Ideal.cmp, CmpDirection.ordered, hc]

/-- The positions depend on the order of the entries alone. -/
theorem pos_congr {l p : Fin 64 → EReal} (h : ∀ k k', l k' < l k ↔ p k' < p k) : pos l = pos p := by
  unfold pos
  congr 1
  funext k k'
  rw [gt_iff, gt_iff]
  exact decide_eq_decide.mpr (h k k')

/-- Along the positions the entries do not increase. -/
theorem pos_anti (l : Fin 64 → EReal) {i j : Fin 64} (hij : i < j) : l (pos l j) ≤ l (pos l i) := by
  have := sortedFrom_noInversion (fun k k' => decide (l k' < l k))
    (fun k k' => FloatOps.cmpfTotal (F := Ideal) (φ := .f32) .gt (l k) (l k') == 1#1)
    (fun a b hab => by rw [gt_iff] at hab; simp only [decide_eq_true_eq] at hab; simpa using hab.le)
    (fun a b hab => by rw [gt_iff]; exact hab)
    (fun a b c hab hbc => by simp only [decide_eq_false_iff_not, not_lt] at *; exact hab.trans hbc) i j hij
  simpa [pos] using this

/-- Every column has a place in the order. -/
theorem pos_surjective (l : Fin 64 → EReal) : Function.Surjective (pos l) := sortedFrom_surjective _

/-- If the three greatest entries are distinct and the greatest is finite, the first two positions are the row's two
    greatest. -/
theorem top2_pos {l : Fin 64 → EReal} (h0 : l (pos l 0) < ⊤) (h1 : l (pos l 1) < l (pos l 0)) (h2 : l (pos l 2) < l (pos l 1)) :
    Top2 l (pos l 0) (pos l 1) := by
  refine ⟨h0, h1, fun e ha hb => ?_⟩
  obtain ⟨k, rfl⟩ := pos_surjective l e
  have hk0 : k ≠ 0 := fun hk => ha (by rw [hk])
  have hk1 : k ≠ 1 := fun hk => hb (by rw [hk])
  by_cases hk2 : k = 2
  · rw [hk2]; exact h2
  · refine lt_of_le_of_lt (pos_anti l (i := 2) (j := k) ?_) h2
    rw [Fin.lt_def]
    have : k.val ≠ 0 := fun hh => hk0 (Fin.ext hh)
    have : k.val ≠ 1 := fun hh => hk1 (Fin.ext hh)
    have : k.val ≠ 2 := fun hh => hk2 (Fin.ext hh)
    show 2 < k.val
    omega

/-- The softmax keeps the order of the entries, so its top-2 is the row's. -/
theorem pos_softmax {l : Fin 64 → EReal} {a b : Fin 64} (h : Top2 l a b) : pos (softmax l) = pos l := by
  symm
  refine pos_congr fun k k' => ?_
  rw [h.softmax, h.softmax, EReal.coe_lt_coe_iff, div_lt_div_iff_of_pos_right h.sum_pos]
  have ht : ∀ e, l e ≠ ⊤ := fun e => ((h.le_top e).trans_lt h.fin).ne
  unfold expo
  by_cases hk : l k = ⊥
  · rw [if_pos hk, hk]
    constructor
    · intro hc; exact absurd hc not_lt_bot
    · intro hc
      exfalso
      split_ifs at hc
      · exact lt_irrefl _ hc
      · exact absurd hc (not_lt.mpr (Real.exp_pos _).le)
  rw [if_neg hk]
  by_cases hk' : l k' = ⊥
  · rw [if_pos hk', hk']
    exact ⟨fun _ => Real.exp_pos _, fun _ => bot_lt_iff_ne_bot.mpr hk⟩
  rw [if_neg hk', Real.exp_lt_exp, sub_lt_sub_iff_right, ← EReal.coe_lt_coe_iff, EReal.coe_toReal (ht k') hk',
    EReal.coe_toReal (ht k) hk]

/-! ## Sums taken in blocks -/

/-- A sum over `m` blocks of `n` is the sum over all. -/
theorem sum_blocks {m n N : Nat} (hN : m * n = N) (f : Fin N → EReal) (g : Fin m → Fin n → Fin N)
    (hg : ∀ k r, (g k r).val = n * k.val + r.val) : ∑ k, ∑ r, f (g k r) = ∑ t, f t := by
  subst hN
  rw [← Equiv.sum_comp finProdFinEquiv f, Fintype.sum_prod_type]
  refine Finset.sum_congr rfl fun k _ => Finset.sum_congr rfl fun r _ => congrArg f (Fin.ext ?_)
  rw [hg]
  show n * k.val + r.val = r.val + n * k.val
  exact Nat.add_comm _ _

/-- A row's three layers: the logits of a token `x` under the weights and biases. -/
def mlp (x : Fin 4096 → EReal) (w1 : Fin 4096 → Fin 512 → EReal) (b1 : Fin 512 → EReal) (w2 : Fin 512 → Fin 256 → EReal)
    (b2 : Fin 256 → EReal) (w3 : Fin 256 → Fin 64 → EReal) (b3 : Fin 64 → EReal) (e : Fin 64) : EReal :=
  ∑ k, max (∑ j, max (∑ i, x i * w1 i j + b1 j) 0 * w2 j k + b2 k) 0 * w3 k e + b3 e

end Cert.Router

end
-- ==== Proof.Block.lean ====
module

public import proofs.«01_k».proof.Proof.Body
public import proofs.«01_k».proof.Proof.Row
public import Idealize.ShloMosaic.Lib.Pointwise

@[expose] public section

set_option maxRecDepth 16384

noncomputable section

namespace Cert.KernelIdeal.Block

open Cert.KernelIdeal Cert.KernelIdeal.Gen Cert.KernelIdeal.Body Cert.Router
open Idealize.ShloMosaic Idealize.ShloMosaic.TcCoe Idealize.SL.Sem

/-- The word of −∞ is the least extended real. -/
theorem ninf : Ideal.ofBits FTy.f32 0xFF800000#32 = ⊥ := by
  simp [Ideal.ofBits, Ideal.ieee]

section
variable (v : Vec Ideal S256x64 .f32) (r : Fin 256) (e : Fin 64)

/-- Row `r` of a chunk. -/
abbrev row : Fin 64 → EReal := fun e => v (ix2 r e)

/-- Each row's greatest logit. -/
theorem pay12_at : k0_pay12 v (ix2 r 0) = rowMax (row v r) := by
  pointwise [k0_pay12]
  rw [ninf]; rfl

/-- Where a row attains its greatest logit. -/
theorem pay13_at : k0_pay13 v (ix2 r e) = BitVec.ofBool (decide (v (ix2 r e) = rowMax (row v r))) := by
  pointwise [k0_pay13]
  rw [pay12_at]

/-- A choice on a decided bit is the choice on what it decides. -/
theorem select_ofBool {α : Type} (p : Prop) [Decidable p] (a b : α) :
    Scalar.select (BitVec.ofBool (decide p)) a b = if p then a else b := by
  by_cases hp : p <;> simp [Scalar.select, hp]

/-- Each row with its greatest logit hidden. -/
theorem pay14_at : k0_pay14 v (ix2 r e) = hidden (row v r) e := by
  pointwise [k0_pay14]
  rw [pay13_at, select_ofBool, ninf]; rfl

/-- Each row's second greatest logit. -/
theorem pay15_at : k0_pay15 v (ix2 r 0) = rowMax (hidden (row v r)) := by
  pointwise [k0_pay15]
  rw [ninf]
  simp only [pay14_at]
  rfl

/-- Each row's ratio. -/
theorem pay16_at : k0_pay16 v (ix2 r 0) = kernelRatio (row v r) := by
  pointwise [k0_pay16]
  rw [pay15_at, pay12_at]; rfl

/-- Each row's first weight. -/
theorem pay17_at : k0_pay17 v (ix2 r 0) = kernelTop (row v r) := by
  pointwise [k0_pay17]
  rw [pay16_at]; rfl

/-- Each row's weights. -/
theorem pay18_at : k0_pay18 v (ix2 r e) = kernelRow (row v r) e := by
  pointwise [k0_pay18]
  rw [pay13_at, select_ofBool, pay14_at, pay15_at, pay16_at, pay17_at]; rfl

/-- The column sums of the weights of a chunk. -/
theorem pay19_at : k0_pay19 v (ix2 0 e) = ∑ r, kernelRow (row v r) e := by
  pointwise [k0_pay19]
  simp only [pay18_at]

/-- The sum of the first weights of a chunk. -/
theorem pay20_at : k0_pay20 v (ix2 0 0) = ∑ r, kernelTop (row v r) := by
  pointwise [k0_pay20]
  simp only [pay17_at]

/-- The second chunk's weights are the same function of the chunk as the first's. -/
theorem pay27_eq : k0_pay27 v = k0_pay18 v := rfl

/-- So are the third's. -/
theorem pay36_eq : k0_pay36 (k0_pay30 v) (k0_pay31 v) (k0_pay32 v) (k0_pay33 v) = k0_pay18 v := rfl

/-- So are the fourth's. -/
theorem pay48_eq : k0_pay48 (k0_pay40 v) (k0_pay44 v) (k0_pay45 v) (k0_pay46 v) k0_pay47 = k0_pay18 v := rfl

/-- The second chunk's greatest weights are the same function of its logits. -/
theorem pay26_eq : k0_pay26 v = k0_pay17 v := rfl
/-- The third chunk's greatest weights are the same function of its logits. -/
theorem pay35_eq : k0_pay35 (k0_pay30 v) (k0_pay33 v) = k0_pay17 v := rfl
/-- The fourth chunk's greatest weights are the same function of its logits. -/
theorem pay44_eq : k0_pay44 v = k0_pay17 v := rfl

end

/-- Whether a grid point counts the logits its scratch holds: not the first. -/
theorem pay10_at (i : grid0.Coords) : k0_pay10 (F := Ideal) i = if (i 0).val = 0 then 0 else 1 := by
  have hlt : (i 0).val < 17 := (i 0).isLt
  unfold k0_pay10
  dsimp only
  have : ∀ n : Nat, n < 17 → Scalar.cmpi .sgt (BitVec.ofNat 32 n) 0#32 = if n = 0 then 0#1 else 1#1 := by decide
  rw [this _ hlt]
  by_cases h0 : (i 0).val = 0
  · rw [if_pos h0, if_pos h0, Scalar.select, if_neg (by decide)]
    simp [Scalar.ofBits, FloatOps.ofBits, Ideal.ofBits, Ideal.ieee]
  · rw [if_neg h0, if_neg h0, Scalar.select, if_pos (by decide)]
    simp [Scalar.ofBits, FloatOps.ofBits, Ideal.ofBits, Ideal.ieee, -EReal.coe_mul]
    norm_num

/-- The running column sums after the body. -/
theorem usageOf_at (i : grid0.Coords) (v0 v1 v2 v3 : Vec Ideal S256x64 .f32) (xo : Vec Ideal S1x64 .f32) (e : Fin 64) :
    usageOf i v0 v1 v2 v3 xo (ix2 0 e) = xo (ix2 0 e) + (if (i 0).val = 0 then 0 else 1)
      * (((∑ r, kernelRow (row v0 r) e + ∑ r, kernelRow (row v1 r) e) + ∑ r, kernelRow (row v2 r) e)
        + ∑ r, kernelRow (row v3 r) e) := by
  unfold usageOf
  generalize hs : k0_pay10 (F := Ideal) i = s
  rw [pay10_at] at hs
  rw [hs]
  pointwise [k0_pay49, k0_pay37, k0_pay28]
  rw [pay48_eq, pay36_eq, pay27_eq, pay19_at]
  simp only [pay18_at]

/-- The running confidence after the body. -/
theorem confOf_at (i : grid0.Coords) (v0 v1 v2 v3 : Vec Ideal S256x64 .f32) (xo : Vec Ideal S1x1 .f32) :
    confOf i v0 v1 v2 v3 xo (ix2 0 0) = xo (ix2 0 0) + (if (i 0).val = 0 then 0 else 1)
      * (((∑ r, kernelTop (row v0 r) + ∑ r, kernelTop (row v1 r)) + ∑ r, kernelTop (row v2 r))
        + ∑ r, kernelTop (row v3 r)) := by
  unfold confOf
  generalize hs : k0_pay10 (F := Ideal) i = s
  rw [pay10_at] at hs
  rw [hs]
  pointwise [k0_pay50, k0_pay38, k0_pay29, k0_pay11]
  rw [pay44_eq, pay35_eq, pay26_eq, pay20_at]
  simp only [pay17_at, zero_add]

/-! ## The block's logits and its four chunks -/

section
variable (xs : Vec Ideal S1024x64 .f32)

/-- Row `r` of a block of logits. -/
abbrev brow (r : Fin 1024) : Fin 64 → EReal := fun e => xs (ix2 r e)

/-- Row `256 k + r`. -/
abbrev sub (k : Fin 4) (r : Fin 256) : Fin 1024 := ⟨256 * k.val + r.val, by have := k.isLt; have := r.isLt; omega⟩

/-- Chunk 0 holds the rows from 0. -/
theorem chunk0_at (r : Fin 256) (e : Fin 64) : chunk0 xs (ix2 r e) = xs (ix2 (sub 0 r) e) :=
  congrArg xs (funext fun a => Fin.ext (by
    match a with
    | ⟨0, _⟩ => show 0 + 1 * r.val = 256 * 0 + r.val; omega
    | ⟨1, _⟩ => show 0 + 1 * e.val = e.val; omega))

/-- Chunk 1 holds the rows from 256. -/
theorem chunk1_at (r : Fin 256) (e : Fin 64) : chunk1 xs (ix2 r e) = xs (ix2 (sub 1 r) e) :=
  congrArg xs (funext fun a => Fin.ext (by
    match a with
    | ⟨0, _⟩ => show 256 + 1 * r.val = 256 * 1 + r.val; omega
    | ⟨1, _⟩ => show 0 + 1 * e.val = e.val; omega))

/-- Chunk 2 holds the rows from 512. -/
theorem chunk2_at (r : Fin 256) (e : Fin 64) : chunk2 xs (ix2 r e) = xs (ix2 (sub 2 r) e) :=
  congrArg xs (funext fun a => Fin.ext (by
    match a with
    | ⟨0, _⟩ => show 512 + 1 * r.val = 256 * 2 + r.val; omega
    | ⟨1, _⟩ => show 0 + 1 * e.val = e.val; omega))

/-- Chunk 3 holds the rows from 768. -/
theorem chunk3_at (r : Fin 256) (e : Fin 64) : chunk3 xs (ix2 r e) = xs (ix2 (sub 3 r) e) :=
  congrArg xs (funext fun a => Fin.ext (by
    match a with
    | ⟨0, _⟩ => show 768 + 1 * r.val = 256 * 3 + r.val; omega
    | ⟨1, _⟩ => show 0 + 1 * e.val = e.val; omega))

/-- The weights of the block's rows, as one array. -/
def weights : Vec Ideal S1024x64 .f32 := fun j => kernelRow (brow xs (j 0)) (j 1)

/-- Rows of chunk 0 are rows of the block. -/
theorem row_chunk0 (r : Fin 256) : row (chunk0 xs) r = brow xs (sub 0 r) := funext fun e => chunk0_at xs r e
/-- Rows of chunk 1 are rows of the block. -/
theorem row_chunk1 (r : Fin 256) : row (chunk1 xs) r = brow xs (sub 1 r) := funext fun e => chunk1_at xs r e
/-- Rows of chunk 2 are rows of the block. -/
theorem row_chunk2 (r : Fin 256) : row (chunk2 xs) r = brow xs (sub 2 r) := funext fun e => chunk2_at xs r e
/-- Rows of chunk 3 are rows of the block. -/
theorem row_chunk3 (r : Fin 256) : row (chunk3 xs) r = brow xs (sub 3 r) := funext fun e => chunk3_at xs r e

/-- What is stored of a chunk is the block of weights there. -/
theorem piece_at (v : Vec Ideal S256x64 .f32) (k : Fin 4) (hv : ∀ r, row v r = brow xs (sub k r)) (j : S256x64.Idx) (i : S1024x64.Idx)
    (h0 : (i 0).val = 256 * k.val + (j 0).val) (h1 : (i 1).val = (j 1).val) : k0_pay18 v j = weights xs i := by
  obtain ⟨r, e, rfl⟩ : ∃ (r : Fin 256) (e : Fin 64), j = ix2 r e := ⟨j 0, j 1, eq_ix2 j⟩
  rw [pay18_at, hv]
  show kernelRow (brow xs (sub k r)) e = kernelRow (brow xs (i 0)) (i 1)
  rw [show sub k r = i 0 from Fin.ext h0.symm, show e = i 1 from Fin.ext h1.symm]

/-- What the four stores leave: every row's weights. -/
theorem weightPieces_eq : View.canon (weightPieces xs) = weights xs := by
  funext y
  have hy0 : (y 0).val < 1024 := (y 0).isLt
  have hy1 : (y 1).val < 64 := (y 1).isLt
  refine View.canon_apply_of_pieces (weights xs) _ (fun p hp x => ?_) y ?_
  · simp only [weightPieces, List.mem_cons, List.mem_nil_iff, or_false] at hp
    rcases hp with rfl | rfl | rfl | rfl
    · rw [pay48_eq]
      refine piece_at xs _ 3 (row_chunk3 xs) _ _ ?_ ?_
      · show 768 + 1 * (x 0).val = 256 * 3 + (x 0).val; omega
      · show 0 + 1 * (x 1).val = (x 1).val; omega
    · rw [pay36_eq]
      refine piece_at xs _ 2 (row_chunk2 xs) _ _ ?_ ?_
      · show 512 + 1 * (x 0).val = 256 * 2 + (x 0).val; omega
      · show 0 + 1 * (x 1).val = (x 1).val; omega
    · rw [pay27_eq]
      refine piece_at xs _ 1 (row_chunk1 xs) _ _ ?_ ?_
      · show 256 + 1 * (x 0).val = 256 * 1 + (x 0).val; omega
      · show 0 + 1 * (x 1).val = (x 1).val; omega
    · refine piece_at xs _ 0 (row_chunk0 xs) _ _ ?_ ?_
      · show 0 + 1 * (x 0).val = 256 * 0 + (x 0).val; omega
      · show 0 + 1 * (x 1).val = (x 1).val; omega
  · by_cases h3 : 768 ≤ (y 0).val
    · refine ⟨_, .head _, (Rect.mem_set_unit (inb := inb_S1024x64_S256x64_768_0)).mpr fun a => ?_⟩
      match a with
      | ⟨0, _⟩ => exact ⟨h3, hy0⟩
      | ⟨1, _⟩ => exact ⟨Nat.zero_le _, by show (y 1).val < 0 + 64; omega⟩
    by_cases h2 : 512 ≤ (y 0).val
    · refine ⟨_, .tail _ (.head _), (Rect.mem_set_unit (inb := inb_S1024x64_S256x64_512_0)).mpr fun a => ?_⟩
      match a with
      | ⟨0, _⟩ => exact ⟨h2, by show (y 0).val < 512 + 256; omega⟩
      | ⟨1, _⟩ => exact ⟨Nat.zero_le _, by show (y 1).val < 0 + 64; omega⟩
    by_cases h1 : 256 ≤ (y 0).val
    · refine ⟨_, .tail _ (.tail _ (.head _)), (Rect.mem_set_unit (inb := inb_S1024x64_S256x64_256_0)).mpr fun a => ?_⟩
      match a with
      | ⟨0, _⟩ => exact ⟨h1, by show (y 0).val < 256 + 256; omega⟩
      | ⟨1, _⟩ => exact ⟨Nat.zero_le _, by show (y 1).val < 0 + 64; omega⟩
    · refine ⟨_, .tail _ (.tail _ (.tail _ (.head _))), (Rect.mem_set_unit (inb := inb_S1024x64_S256x64_0_0)).mpr fun a => ?_⟩
      match a with
      | ⟨0, _⟩ => exact ⟨Nat.zero_le _, by show (y 0).val < 0 + 256; omega⟩
      | ⟨1, _⟩ => exact ⟨Nat.zero_le _, by show (y 1).val < 0 + 64; omega⟩

/-- A sum over a block's rows is the sum of the four chunks' sums. -/
theorem four_chunks (f : Fin 1024 → EReal) :
    ((∑ r, f (sub 0 r) + ∑ r, f (sub 1 r)) + ∑ r, f (sub 2 r)) + ∑ r, f (sub 3 r) = ∑ r, f r := by
  rw [← sum_blocks (m := 4) (n := 256) (N := 1024) rfl f sub (fun _ _ => rfl), Fin.sum_univ_four]

/-- The column sums after a point's body: the block's weights are added, at the first point not. -/
theorem usageNext_at (i : grid0.Coords) (xo : Vec Ideal S1x64 .f32) (e : Fin 64) :
    usageNext i xs xo (ix2 0 e) = xo (ix2 0 e) + (if (i 0).val = 0 then 0 else 1) * ∑ r, kernelRow (brow xs r) e := by
  unfold usageNext
  rw [usageOf_at]
  simp only [row_chunk0, row_chunk1, row_chunk2, row_chunk3]
  rw [four_chunks (fun r => kernelRow (brow xs r) e)]

/-- The confidence after a point's body: the sum of the block's first weights is added, at the first point not. -/
theorem confNext_at (i : grid0.Coords) (xo : Vec Ideal S1x1 .f32) :
    confNext i xs xo (ix2 0 0) = xo (ix2 0 0) + (if (i 0).val = 0 then 0 else 1) * ∑ r, kernelTop (brow xs r) := by
  unfold confNext
  rw [confOf_at]
  simp only [row_chunk0, row_chunk1, row_chunk2, row_chunk3]
  rw [four_chunks (fun r => kernelTop (brow xs r))]

end

/-- The logits of a block's row are the three layers on the row. -/
theorem logitsOf_at (x0 : Vec Ideal S1024x4096 .f32) (x1 : Vec Ideal S4096x512 .f32) (x2 : Vec Ideal S1x512 .f32)
    (x3 : Vec Ideal S512x256 .f32) (x4 : Vec Ideal S1x256 .f32) (x5 : Vec Ideal S256x64 .f32) (x6 : Vec Ideal S1x64 .f32)
    (r : Fin 1024) (e : Fin 64) :
    logitsOf x0 x1 x2 x3 x4 x5 x6 (ix2 r e) = mlp (fun i => x0 (ix2 r i)) (fun i j => x1 (ix2 i j)) (fun j => x2 (ix2 0 j))
      (fun j k => x3 (ix2 j k)) (fun k => x4 (ix2 0 k)) (fun k e => x5 (ix2 k e)) (fun e => x6 (ix2 0 e)) e := by
  pointwise [logitsOf, k0_pay1, k0_pay51]
  rfl

/-! ## The last point's results -/

/-- The word of 1/16384. -/
theorem c_inv : Ideal.ofBits FTy.f32 0x38800000#32 = ((1 / 16384 : ℝ) : EReal) := by
  simp [Ideal.ofBits, Ideal.ieee, -EReal.coe_mul]; norm_num
/-- The word of 256. -/
theorem c_256 : Ideal.ofBits FTy.f32 0x43800000#32 = ((256 : ℝ) : EReal) := by
  simp [Ideal.ofBits, Ideal.ieee, -EReal.coe_mul]; norm_num

/-- The utilisation: the column sums over the number of tokens. -/
theorem pay3_at (u : Vec Ideal S1x64 .f32) (e : Fin 64) : k0_pay3 u (ix2 0 e) = u (ix2 0 e) * ((1 / 16384 : ℝ) : EReal) := by
  pointwise [k0_pay3, k0_pay2]
  rw [c_inv]

/-- The load-balancing loss. -/
theorem pay4_at (u : Vec Ideal S1x64 .f32) : k0_pay4 u (ix2 0 0)
    = (∑ e, (u (ix2 0 e) - ((256 : ℝ) : EReal)) * (u (ix2 0 e) - ((256 : ℝ) : EReal))) * Ideal.ofBits FTy.f32 0x3923D70A#32 := by
  pointwise [k0_pay4, k0_pay2]
  rw [c_256]

/-- The entropy. -/
theorem pay5_at (u : Vec Ideal S1x64 .f32) : k0_pay5 u (ix2 0 0)
    = 0 - ∑ e, u (ix2 0 e) * ((1 / 16384 : ℝ) : EReal)
        * Ideal.log (u (ix2 0 e) * ((1 / 16384 : ℝ) : EReal) + Ideal.ofBits FTy.f32 0x322BCC77#32) := by
  pointwise [k0_pay5, k0_pay3, k0_pay2]
  rw [c_inv]

/-- The mean confidence. -/
theorem pay6_at (u : Vec Ideal S1x1 .f32) : k0_pay6 u (ix2 0 0) = u (ix2 0 0) * ((1 / 16384 : ℝ) : EReal) := by
  pointwise [k0_pay6]
  rw [c_inv]

/-- The usage starts at zero. -/
theorem pay7_at (e : Fin 64) : k0_pay7 (F := Ideal) (ix2 0 e) = 0 := by
  pointwise [k0_pay7]

/-- The confidence starts at zero. -/
theorem pay8_at : k0_pay8 (F := Ideal) (ix2 0 0) = 0 := by
  pointwise [k0_pay8]

end Cert.KernelIdeal.Block
end
-- ==== Proof.Fold.lean ====
module

public import proofs.«01_k».proof.Proof.Block

@[expose] public section

/-! # What the kernel's buffers hold after each grid point

  By induction over the 17 points: the scratch holds the logits of the point's own block, the running sums those of the
  blocks before it, and the weights' buffer the weights of the block before it. -/

set_option maxRecDepth 16384

noncomputable section

namespace Cert.KernelIdeal.Fold

open Cert.KernelIdeal Cert.KernelIdeal.Gen Cert.KernelIdeal.Body Cert.KernelIdeal.Block Cert.Router
open Idealize.ShloMosaic Idealize.ShloMosaic.TcCoe Idealize.SL.Sem

variable (m : (ℓ : Loc nD τ sig) → Buf (Elt Ideal) ℓ)

/-- The logits of the block a point reads. -/
def blockLogits (c : Dev nD) (t : Fin cfg0.N) : Vec Ideal S1024x64 .f32 :=
  logitsOf (iblk m c 0 t) (iblk m c 1 t) (iblk m c 2 t) (iblk m c 3 t) (iblk m c 4 t) (iblk m c 5 t) (iblk m c 6 t)

/-- Point `n`, for any number. -/
def pt (n : ℕ) : Fin cfg0.N := ⟨min n 16, lt_of_le_of_lt (min_le_right n 16) (by rw [show cfg0.N = 17 from N_0]; decide)⟩

/-- The point of a point's number is the point. -/
theorem pt_eq (t : Fin cfg0.N) : pt t.val = t := by
  have hN : t.val < 17 := lt_of_lt_of_eq t.isLt (show cfg0.N = 17 from N_0)
  exact Fin.ext (min_eq_left (by omega))

/-- The grid coordinate of a point is its number. -/
theorem coord (t : Fin cfg0.N) : (grid0.coords t 0).val = t.val := by
  have hN : t.val < 17 := lt_of_lt_of_eq t.isLt (show cfg0.N = 17 from N_0)
  have e0 : (grid0.coords t 0).val = t.val / 1 % 17 := Pipeline.Grid.coords_val t 0 (by decide) rfl
  omega

/-- After every point the scratch holds the logits of the block the point read. -/
theorem scratch_eq (c : Dev nD) (t : Fin cfg0.N) : (outsAt0 m c t.val t.isLt).2.2.2.2.2.2 = blockLogits m c t := by
  have hN : t.val < 17 := lt_of_lt_of_eq t.isLt (show cfg0.N = 17 from N_0)
  by_cases h0 : t.val % 17 = 0
  · exact (by have q := congrArg (fun p => p.2.2.2.2.2.2) (outsAt0_A m c t h0 (by omega)); dsimp only at q; exact q.trans (sout0_A_0_eq ..))
  by_cases h1 : t.val % 17 = 16
  · exact (by have q := congrArg (fun p => p.2.2.2.2.2.2) (outsAt0_C m c t h0 h1); dsimp only at q; exact q.trans (sout0_C_0_eq ..))
  · exact (by have q := congrArg (fun p => p.2.2.2.2.2.2) (outsAt0_B m c t h0 h1); dsimp only at q; exact q.trans (sout0_B_0_eq ..))

/-- The point before. -/
abbrev prev (t : Fin cfg0.N) : Fin cfg0.N := ⟨t.val - 1, Nat.lt_of_le_of_lt (Nat.sub_le _ _) t.isLt⟩

/-- After every point but the first the weights' buffer holds the weights of the block before. -/
theorem weights_eq (c : Dev nD) (t : Fin cfg0.N) (ht : 0 < t.val) :
    (outsAt0 m c t.val t.isLt).1 = weights (blockLogits m c (prev t)) := by
  have hN : t.val < 17 := lt_of_lt_of_eq t.isLt (show cfg0.N = 17 from N_0)
  rw [← scratch_eq m c (prev t), ← weightPieces_eq]
  by_cases h1 : t.val % 17 = 16
  · exact (by have q := congrArg (fun p => p.1) (outsAt0_C m c t (by omega) h1); dsimp only at q; exact q.trans (out0_C_7_eq ..))
  · exact (by have q := congrArg (fun p => p.1) (outsAt0_B m c t (by omega) h1); dsimp only at q; exact q.trans (out0_B_7_eq ..))

/-- After every point the running column sums are those of the blocks before. -/
theorem usage_eq (c : Dev nD) (e : Fin 64) : ∀ (n : ℕ) (hn : n < cfg0.N),
    (outsAt0 m c n hn).2.1 (ix2 0 e) = ∑ k ∈ Finset.range n, ∑ r, kernelRow (brow (blockLogits m c (pt k)) r) e
  | 0, hn => by
    obtain ⟨v0, v1, v2, v3, hv⟩ := out0_A_8_eq (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr rfl) (fun h => absurd ((hcond0_1 ⟨0, hn⟩).mp h) (show ¬(0 : ℕ) % 17 = 16 by decide)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
    have h : (outsAt0 m c 0 hn).2.1 = usageOf (grid0.coords ⟨0, hn⟩) v0 v1 v2 v3 (k0_pay7 (F := Ideal)) :=
      (by have q := congrArg (fun p => p.2.1) (outsAt0_A m c ⟨0, hn⟩ rfl (show ¬(0 : ℕ) % 17 = 16 by decide)); dsimp only at q; exact q.trans hv)
    rw [h, usageOf_at, coord, if_pos rfl, zero_mul, add_zero, pay7_at, Finset.range_zero, Finset.sum_empty]
  | n + 1, hn => by
    have hN : n + 1 < 17 := lt_of_lt_of_eq hn (show cfg0.N = 17 from N_0)
    have hs := scratch_eq m c ⟨n, Nat.lt_of_succ_lt hn⟩
    have hp : pt n = ⟨n, Nat.lt_of_succ_lt hn⟩ := pt_eq ⟨n, Nat.lt_of_succ_lt hn⟩
    have h : (outsAt0 m c (n + 1) hn).2.1 = usageNext (grid0.coords ⟨n + 1, hn⟩) (outsAt0 m c n (Nat.lt_of_succ_lt hn)).2.2.2.2.2.2 (outsAt0 m c n (Nat.lt_of_succ_lt hn)).2.1 := by
      by_cases h1 : (n + 1) % 17 = 16
      · exact (by have q := congrArg (fun p => p.2.1) (outsAt0_C m c ⟨n + 1, hn⟩ (by dsimp only; omega) h1); dsimp only at q; exact q.trans (out0_C_8_eq ..))
      · exact (by have q := congrArg (fun p => p.2.1) (outsAt0_B m c ⟨n + 1, hn⟩ (by dsimp only; omega) h1); dsimp only at q; exact q.trans (out0_B_8_eq ..))
    rw [h, usageNext_at, coord, if_neg (Nat.succ_ne_zero n), one_mul, usage_eq c e n, Finset.sum_range_succ, hp, ← hs]

/-- After every point but the last the running confidence is that of the blocks before. -/
theorem conf_eq (c : Dev nD) : ∀ (n : ℕ) (hn : n < cfg0.N), n < 16 →
    (outsAt0 m c n hn).2.2.1 (ix2 0 0) = ∑ k ∈ Finset.range n, ∑ r, kernelTop (brow (blockLogits m c (pt k)) r)
  | 0, hn, _ => by
    obtain ⟨v0, v1, v2, v3, hv⟩ := out0_A_9_eq (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr rfl) (fun h => absurd ((hcond0_1 ⟨0, hn⟩).mp h) (show ¬(0 : ℕ) % 17 = 16 by decide)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
    have h : (outsAt0 m c 0 hn).2.2.1 = confOf (grid0.coords ⟨0, hn⟩) v0 v1 v2 v3 (k0_pay8 (F := Ideal)) :=
      (by have q := congrArg (fun p => p.2.2.1) (outsAt0_A m c ⟨0, hn⟩ rfl (show ¬(0 : ℕ) % 17 = 16 by decide)); dsimp only at q; exact q.trans hv)
    rw [h, confOf_at, coord, if_pos rfl, zero_mul, add_zero, pay8_at, Finset.range_zero, Finset.sum_empty]
  | n + 1, hn, hlt => by
    have hs := scratch_eq m c ⟨n, Nat.lt_of_succ_lt hn⟩
    have hp : pt n = ⟨n, Nat.lt_of_succ_lt hn⟩ := pt_eq ⟨n, Nat.lt_of_succ_lt hn⟩
    have h : (outsAt0 m c (n + 1) hn).2.2.1 = confNext (grid0.coords ⟨n + 1, hn⟩) (outsAt0 m c n (Nat.lt_of_succ_lt hn)).2.2.2.2.2.2 (outsAt0 m c n (Nat.lt_of_succ_lt hn)).2.2.1 :=
      (by have q := congrArg (fun p => p.2.2.1) (outsAt0_B m c ⟨n + 1, hn⟩ (by dsimp only; omega) (by dsimp only; omega)); dsimp only at q; exact q.trans (out0_B_9_eq ..))
    rw [h, confNext_at, coord, if_neg (Nat.succ_ne_zero n), one_mul, conf_eq c n _ (by omega), Finset.sum_range_succ, hp, ← hs]

/-! ## The last point -/

/-- The last point. -/
abbrev tl : Fin cfg0.N := ⟨16, by rw [show cfg0.N = 17 from N_0]; decide⟩

/-- The column sums of all the blocks' weights. -/
def usageSum (c : Dev nD) (e : Fin 64) : EReal := ∑ k ∈ Finset.range 16, ∑ r, kernelRow (brow (blockLogits m c (pt k)) r) e

/-- The sum of all the blocks' first weights. -/
def confSum (c : Dev nD) : EReal := ∑ k ∈ Finset.range 16, ∑ r, kernelTop (brow (blockLogits m c (pt k)) r)

/-- The column sums at the end. -/
theorem last_usage (c : Dev nD) (e : Fin 64) : (outsAt0 m c 16 tl.isLt).2.1 (ix2 0 e) = usageSum m c e :=
  usage_eq m c e 16 tl.isLt

/-- The last point's column sums, as the term the results are made of. -/
theorem last_usage_term (c : Dev nD) : (outsAt0 m c 16 tl.isLt).2.1
    = usageNext (grid0.coords tl) (outsAt0 m c 15 (prev tl).isLt).2.2.2.2.2.2 (outsAt0 m c 15 (prev tl).isLt).2.1 :=
  (by have q := congrArg (fun p => p.2.1) (outsAt0_C m c tl (by decide) rfl); dsimp only at q; exact q.trans (out0_C_8_eq ..))

/-- The mean confidence at the end. -/
theorem last_conf (c : Dev nD) : (outsAt0 m c 16 tl.isLt).2.2.1 (ix2 0 0) = confSum m c * ((1 / 16384 : ℝ) : EReal) := by
  have hs : (outsAt0 m c 15 (prev tl).isLt).2.2.2.2.2.2 = blockLogits m c (prev tl) := scratch_eq m c (prev tl)
  have hp : pt 15 = prev tl := pt_eq (prev tl)
  have h : (outsAt0 m c 16 tl.isLt).2.2.1 = k0_pay6 (confNext (grid0.coords tl) (outsAt0 m c 15 (prev tl).isLt).2.2.2.2.2.2 (outsAt0 m c 15 (prev tl).isLt).2.2.1) :=
    (by have q := congrArg (fun p => p.2.2.1) (outsAt0_C m c tl (by decide) rfl); dsimp only at q; exact q.trans (out0_C_9_eq ..))
  rw [h, pay6_at, confNext_at, coord, if_neg (by decide), one_mul, conf_eq m c 15 _ (by decide), confSum,
    Finset.sum_range_succ (n := 15), hp, ← hs]

/-- The load-balancing loss at the end. -/
theorem last_lbl (c : Dev nD) : (outsAt0 m c 16 tl.isLt).2.2.2.1 (ix2 0 0)
    = (∑ e, (usageSum m c e - ((256 : ℝ) : EReal)) * (usageSum m c e - ((256 : ℝ) : EReal))) * Ideal.ofBits FTy.f32 0x3923D70A#32 := by
  have h : (outsAt0 m c 16 tl.isLt).2.2.2.1 = k0_pay4 (outsAt0 m c 16 tl.isLt).2.1 :=
    by have q := congrArg (fun p => p.2.2.2.1) (outsAt0_C m c tl (by decide) rfl); dsimp only at q; exact (q.trans (out0_C_10_eq ..)).trans (congrArg k0_pay4 (last_usage_term m c).symm)
  rw [h, pay4_at]
  simp only [last_usage]

/-- The entropy at the end. -/
theorem last_ent (c : Dev nD) : (outsAt0 m c 16 tl.isLt).2.2.2.2.1 (ix2 0 0)
    = 0 - ∑ e, usageSum m c e * ((1 / 16384 : ℝ) : EReal)
        * Ideal.log (usageSum m c e * ((1 / 16384 : ℝ) : EReal) + Ideal.ofBits FTy.f32 0x322BCC77#32) := by
  have h : (outsAt0 m c 16 tl.isLt).2.2.2.2.1 = k0_pay5 (outsAt0 m c 16 tl.isLt).2.1 :=
    by have q := congrArg (fun p => p.2.2.2.2.1) (outsAt0_C m c tl (by decide) rfl); dsimp only at q; exact (q.trans (out0_C_11_eq ..)).trans (congrArg k0_pay5 (last_usage_term m c).symm)
  rw [h, pay5_at]
  simp only [last_usage]

/-- The utilisation at the end. -/
theorem last_util (c : Dev nD) (e : Fin 64) : (outsAt0 m c 16 tl.isLt).2.2.2.2.2.1 (ix2 0 e)
    = usageSum m c e * ((1 / 16384 : ℝ) : EReal) := by
  have h : (outsAt0 m c 16 tl.isLt).2.2.2.2.2.1 = k0_pay3 (outsAt0 m c 16 tl.isLt).2.1 :=
    by have q := congrArg (fun p => p.2.2.2.2.2.1) (outsAt0_C m c tl (by decide) rfl); dsimp only at q; exact (q.trans (out0_C_12_eq ..)).trans (congrArg k0_pay3 (last_usage_term m c).symm)
  rw [h, pay3_at, last_usage]

end Cert.KernelIdeal.Fold
end
-- ==== Proof.Final.lean ====
module

public import proofs.«01_k».proof.Proof.Fold
public import Idealize.ShloMosaic.Lib.Pipeline.Value
public import Idealize.ShloMosaic.Lib.Pipeline.ValueKit.Geometry
public import Idealize.ShloMosaic.Lib.Pipeline.FrameSuffix

@[expose] public section

/-! # The kernel's arrays after the run

  Each output array after the last grid point, as a function of the arguments, and the six results the host's reshapes
  make of them. -/

set_option maxRecDepth 16384

noncomputable section

namespace Cert.KernelIdeal.Final

open Cert.KernelIdeal Cert.KernelIdeal.Gen Cert.KernelIdeal.Body Cert.KernelIdeal.Block Cert.KernelIdeal.Fold Cert.Router
open Idealize.ShloMosaic Idealize.ShloMosaic.TcCoe Idealize.SL.Sem
open Idealize.ShloMosaic.Pipeline (Dat)

variable (m : (ℓ : Loc nD τ sig) → Buf (Elt Ideal) ℓ)

/-! ## The arrays the kernel's region finds -/

/-- The tokens as the region finds them: the first argument with its two leading axes joined. -/
theorem V_tokens (c : Dev nD) : V m c main_v0 = shapeCast S16384x4096 (m (c.tc.loc main_arg0)) shapeCasts_S4x4096x4096_S16384x4096 := by
  show StableHlo.after hostOps0 (fun b => m (c, b)) (Proc.devRef .tc main_v0) = _
  after_results
  rfl

/-- The first bias as the region finds it: a row. -/
theorem V_bias1 (c : Dev nD) : V m c main_v1 = shapeCast S1x512 (m (c.tc.loc main_arg2)) shapeCasts_S512_S1x512 := by
  show StableHlo.after hostOps0 (fun b => m (c, b)) (Proc.devRef .tc main_v1) = _
  after_results
  rfl

/-- The second bias as the region finds it: a row. -/
theorem V_bias2 (c : Dev nD) : V m c main_v2 = shapeCast S1x256 (m (c.tc.loc main_arg4)) shapeCasts_S256_S1x256 := by
  show StableHlo.after hostOps0 (fun b => m (c, b)) (Proc.devRef .tc main_v2) = _
  after_results
  rfl

/-- The third bias as the region finds it: a row. -/
theorem V_bias3 (c : Dev nD) : V m c main_v3 = shapeCast S1x64 (m (c.tc.loc main_arg6)) shapeCasts_S64_S1x64 := by
  show StableHlo.after hostOps0 (fun b => m (c, b)) (Proc.devRef .tc main_v3) = _
  after_results
  rfl

/-! ## The blocks the points read -/

/-- The block of tokens that a point reads: its own, and at the last point the last block again. -/
theorem index0 : ∀ t : Fin grid0.N, win0_0.index t 0 = min t.val 15 ∧ win0_0.index t 1 = 0 := by decide +kernel
/-- The block of weights that a point writes: the one of the point before. -/
theorem index7 : ∀ t : Fin grid0.N, win0_7.index t 0 = t.val - 1 ∧ win0_7.index t 1 = 0 := by decide +kernel
/-- The block of weights is written back at every point but the first. -/
theorem flush7 : ∀ t : Fin grid0.N, win0_7.flush t = true ↔ 0 < t.val := by decide +kernel

/-- The token a row of a block is. -/
def token (k : Fin 16) (r : Fin 1024) : Fin 16384 := ⟨1024 * k.val + r.val, by omega⟩

/-- The tokens of a block. -/
theorem read0 (c : Dev nD) (t : Fin cfg0.N) (k : Fin 16) (hk : k.val = min t.val 15) (r : Fin 1024) (i : Fin 4096) :
    iblk m c 0 t (ix2 r i) = V m c main_v0 (ix2 (token k r) i) := by
  unfold iblk
  rw [View.read_apply]
  show V m c main_v0 _ = V m c main_v0 _
  congr 1
  funext a
  apply Fin.ext
  match a with
  | ⟨0, _⟩ => show win0_0.index t 0 * 1024 + 1 * r.val = 1024 * k.val + r.val; rw [(index0 t).1]; omega
  | ⟨1, _⟩ => show win0_0.index t 1 * 4096 + 1 * i.val = i.val; rw [(index0 t).2]; omega

/-- Every point reads the whole first weight matrix. -/
theorem read1 (c : Dev nD) (t : Fin cfg0.N) : (iblk m c 1 t : Vec Ideal S4096x512 .f32) = V m c main_arg1 := by
  have hz : (fun a => win0_1.index t a * win0_1.size a) = fun _ => 0 := funext fun a => by fin_cases a <;> rfl
  exact Memref.read_access_unit_zero (Elt Ideal) main_arg1 hz _ (V m c main_arg1)

/-- Every point reads the whole first bias. -/
theorem read2 (c : Dev nD) (t : Fin cfg0.N) : (iblk m c 2 t : Vec Ideal S1x512 .f32) = V m c main_v1 := by
  have hz : (fun a => win0_2.index t a * win0_2.size a) = fun _ => 0 := funext fun a => by fin_cases a <;> rfl
  exact Memref.read_access_unit_zero (Elt Ideal) main_v1 hz _ (V m c main_v1)

/-- Every point reads the whole second weight matrix. -/
theorem read3 (c : Dev nD) (t : Fin cfg0.N) : (iblk m c 3 t : Vec Ideal S512x256 .f32) = V m c main_arg3 := by
  have hz : (fun a => win0_3.index t a * win0_3.size a) = fun _ => 0 := funext fun a => by fin_cases a <;> rfl
  exact Memref.read_access_unit_zero (Elt Ideal) main_arg3 hz _ (V m c main_arg3)

/-- Every point reads the whole second bias. -/
theorem read4 (c : Dev nD) (t : Fin cfg0.N) : (iblk m c 4 t : Vec Ideal S1x256 .f32) = V m c main_v2 := by
  have hz : (fun a => win0_4.index t a * win0_4.size a) = fun _ => 0 := funext fun a => by fin_cases a <;> rfl
  exact Memref.read_access_unit_zero (Elt Ideal) main_v2 hz _ (V m c main_v2)

/-- Every point reads the whole third weight matrix. -/
theorem read5 (c : Dev nD) (t : Fin cfg0.N) : (iblk m c 5 t : Vec Ideal S256x64 .f32) = V m c main_arg5 := by
  have hz : (fun a => win0_5.index t a * win0_5.size a) = fun _ => 0 := funext fun a => by fin_cases a <;> rfl
  exact Memref.read_access_unit_zero (Elt Ideal) main_arg5 hz _ (V m c main_arg5)

/-- Every point reads the whole third bias. -/
theorem read6 (c : Dev nD) (t : Fin cfg0.N) : (iblk m c 6 t : Vec Ideal S1x64 .f32) = V m c main_v3 := by
  have hz : (fun a => win0_6.index t a * win0_6.size a) = fun _ => 0 := funext fun a => by fin_cases a <;> rfl
  exact Memref.read_access_unit_zero (Elt Ideal) main_v3 hz _ (V m c main_v3)

/-! ## The logits -/

/-- The logits of every token. -/
def logits (c : Dev nD) (T : Fin 16384) : Fin 64 → EReal :=
  mlp (fun i => shapeCast S16384x4096 (m (c.tc.loc main_arg0)) shapeCasts_S4x4096x4096_S16384x4096 (ix2 T i))
    (fun i j => m (c.tc.loc main_arg1) (ix2 i j)) (fun j => m (c.tc.loc main_arg2) (ix1 j))
    (fun j k => m (c.tc.loc main_arg3) (ix2 j k)) (fun k => m (c.tc.loc main_arg4) (ix1 k))
    (fun k e => m (c.tc.loc main_arg5) (ix2 k e)) (fun e => m (c.tc.loc main_arg6) (ix1 e))

/-- A row of a one-row cast is the vector. -/
theorem row512 (x : Vec Ideal S512 .f32) (j : Fin 512) : shapeCast S1x512 x shapeCasts_S512_S1x512 (ix2 0 j) = x (ix1 j) := by pointwise
/-- The same for the second bias. -/
theorem row256 (x : Vec Ideal S256 .f32) (j : Fin 256) : shapeCast S1x256 x shapeCasts_S256_S1x256 (ix2 0 j) = x (ix1 j) := by pointwise
/-- The same for the third bias. -/
theorem row64 (x : Vec Ideal S64 .f32) (j : Fin 64) : shapeCast S1x64 x shapeCasts_S64_S1x64 (ix2 0 j) = x (ix1 j) := by pointwise

/-- The network's logits depend on its arguments' elements alone. -/
theorem mlp_congr {x x' : Fin 4096 → EReal} {w1 w1' : Fin 4096 → Fin 512 → EReal} {b1 b1' : Fin 512 → EReal}
    {w2 w2' : Fin 512 → Fin 256 → EReal} {b2 b2' : Fin 256 → EReal} {w3 w3' : Fin 256 → Fin 64 → EReal} {b3 b3' : Fin 64 → EReal}
    (hx : ∀ i, x i = x' i) (h1 : ∀ i j, w1 i j = w1' i j) (g1 : ∀ j, b1 j = b1' j) (h2 : ∀ j k, w2 j k = w2' j k)
    (g2 : ∀ k, b2 k = b2' k) (h3 : ∀ k e, w3 k e = w3' k e) (g3 : ∀ e, b3 e = b3' e) (e : Fin 64) :
    mlp x w1 b1 w2 b2 w3 b3 e = mlp x' w1' b1' w2' b2' w3' b3' e := by
  obtain rfl : x = x' := funext hx
  obtain rfl : w1 = w1' := funext fun i => funext (h1 i)
  obtain rfl : b1 = b1' := funext g1
  obtain rfl : w2 = w2' := funext fun i => funext (h2 i)
  obtain rfl : b2 = b2' := funext g2
  obtain rfl : w3 = w3' := funext fun i => funext (h3 i)
  obtain rfl : b3 = b3' := funext g3
  rfl

/-- A row of a block's logits is its token's. -/
theorem blockLogits_row (c : Dev nD) (t : Fin cfg0.N) (k : Fin 16) (hk : k.val = min t.val 15) (r : Fin 1024) :
    brow (blockLogits m c t) r = logits m c (token k r) := by
  funext e
  unfold brow blockLogits logits
  rw [read1, read2, read3, read4, read5, read6, logitsOf_at, V_main_arg1, V_main_arg3, V_main_arg5, V_bias1, V_bias2, V_bias3]
  exact mlp_congr (fun i => (read0 m c t k hk r i).trans (congrFun (V_tokens m c) _)) (fun _ _ => rfl) (fun j => row512 _ j)
    (fun _ _ => rfl) (fun k => row256 _ k) (fun _ _ => rfl) (fun e => row64 _ e) e

/-- The column sums of the weights, over the tokens. -/
theorem usageSum_eq (c : Dev nD) (e : Fin 64) : usageSum m c e = ∑ T, kernelRow (logits m c T) e := by
  rw [← sum_blocks (m := 16) (n := 1024) (by decide) (fun T => kernelRow (logits m c T) e) token (fun _ _ => rfl), usageSum,
    Finset.sum_range]
  refine Finset.sum_congr rfl fun k _ => Finset.sum_congr rfl fun r _ => ?_
  rw [blockLogits_row m c (pt k.val) k (by show k.val = min (min k.val 16) 15; omega) r]

/-- The sum of the first weights, over the tokens. -/
theorem confSum_eq (c : Dev nD) : confSum m c = ∑ T, kernelTop (logits m c T) := by
  rw [← sum_blocks (m := 16) (n := 1024) (by decide) (fun T => kernelTop (logits m c T)) token (fun _ _ => rfl), confSum,
    Finset.sum_range]
  refine Finset.sum_congr rfl fun k _ => Finset.sum_congr rfl fun r _ => ?_
  rw [blockLogits_row m c (pt k.val) k (by show k.val = min (min k.val 16) 15; omega) r]

/-! ## The arrays after the last point -/

/-- The weights: every token's row. -/
theorem final7 (c : Dev nD) : (dats m 0 c).arrAt 7 cfg0.N = fun i : S16384x64.Idx => kernelRow (logits m c (i 0)) (i 1) :=
  (dats m 0 c).arrAt_eq_of_cover 7 _ (fun t hf => by
    have ht : 0 < t.val := (flush7 t).mp hf
    have hN : t.val < 17 := lt_of_lt_of_eq t.isLt (show cfg0.N = 17 from N_0)
    show (cfg0.win 7).cut (grid0.coords t) ((dats m 0 c).after 7 t) = _
    rw [after0_7, weights_eq m c t ht]
    have key : ∀ (r : Fin 1024) (e : Fin 64), weights (blockLogits m c (prev t)) (ix2 r e)
        = kernelRow (logits m c (token ⟨t.val - 1, by omega⟩ r)) e := fun r e =>
      congrArg (kernelRow · e) (blockLogits_row m c (prev t) ⟨t.val - 1, by omega⟩ (by show t.val - 1 = min (t.val - 1) 15; omega) r)
    funext j
    have h0 : token ⟨t.val - 1, by omega⟩ (j 0) = (((cfg0.win 7).blk t).view.emb j) 0 := Fin.ext (by
      show 1024 * (t.val - 1) + (j 0).val = win0_7.index t 0 * 1024 + 1 * (j 0).val
      rw [(index7 t).1]; omega)
    have h1 : (j 1 : Fin 64) = (((cfg0.win 7).blk t).view.emb j) 1 := Fin.ext (by
      show (j 1).val = win0_7.index t 1 * 64 + 1 * (j 1).val
      rw [(index7 t).2]; omega)
    rw [View.read_apply]
    exact (key (j 0) (j 1)).trans (congrArg₂ (fun T e => kernelRow (logits m c T) e) h0 h1)) fun i =>
    have hi0 : (i 0 : Nat) < 16384 := (i 0).isLt
    have hi1 : (i 1 : Nat) < 64 := (i 1).isLt
    have hb : (i 0 : Nat) / 1024 + 1 < cfg0.N := by rw [show cfg0.N = 17 from N_0]; omega
    ⟨⟨(i 0 : Nat) / 1024 + 1, hb⟩, (flush7 _).mpr (Nat.succ_pos _), by
      show i ∈ ((View.whole main_v4_0).slice (win0_7.rect ⟨(i 0 : Nat) / 1024 + 1, hb⟩)).set
      rw [View.set_slice_whole, Rect.mem_set_unit]
      intro a
      match a with
      | ⟨0, _⟩ => show win0_7.index ⟨(i 0 : Nat) / 1024 + 1, hb⟩ 0 * 1024 ≤ (i 0 : Nat) ∧ (i 0 : Nat) < win0_7.index ⟨(i 0 : Nat) / 1024 + 1, hb⟩ 0 * 1024 + 1024
                  rw [(index7 _).1]; dsimp only; omega
      | ⟨1, _⟩ => show win0_7.index ⟨(i 0 : Nat) / 1024 + 1, hb⟩ 1 * 64 ≤ (i 1 : Nat) ∧ (i 1 : Nat) < win0_7.index ⟨(i 0 : Nat) / 1024 + 1, hb⟩ 1 * 64 + 64
                  rw [(index7 _).2]; omega⟩

/-- The usage array after the run: what the last point left in its buffer. -/
theorem final8 (c : Dev nD) : (dats m 0 c).arrAt 8 cfg0.N = (outsAt0 m c 16 tl.isLt).2.1 :=
  (dats m 0 c).arrAt_eq_of_after_last 8 tl (by decide +kernel) _ fun j => by rw [after0_8]; rfl

/-- The confidence after the run, likewise. -/
theorem final9 (c : Dev nD) : (dats m 0 c).arrAt 9 cfg0.N = (outsAt0 m c 16 tl.isLt).2.2.1 :=
  (dats m 0 c).arrAt_eq_of_after_last 9 tl (by decide +kernel) _ fun j => by rw [after0_9]; rfl

/-- The load-balancing loss after the run, likewise. -/
theorem final10 (c : Dev nD) : (dats m 0 c).arrAt 10 cfg0.N = (outsAt0 m c 16 tl.isLt).2.2.2.1 :=
  (dats m 0 c).arrAt_eq_of_after_last 10 tl (by decide +kernel) _ fun j => by rw [after0_10]; rfl

/-- The entropy after the run, likewise. -/
theorem final11 (c : Dev nD) : (dats m 0 c).arrAt 11 cfg0.N = (outsAt0 m c 16 tl.isLt).2.2.2.2.1 :=
  (dats m 0 c).arrAt_eq_of_after_last 11 tl (by decide +kernel) _ fun j => by rw [after0_11]; rfl

/-- The utilization after the run, likewise. -/
theorem final12 (c : Dev nD) : (dats m 0 c).arrAt 12 cfg0.N = (outsAt0 m c 16 tl.isLt).2.2.2.2.2.1 :=
  (dats m 0 c).arrAt_eq_of_after_last 12 tl (by decide +kernel) _ fun j => by rw [after0_12]; rfl

/-! ## The results -/

/-- The host's last lines reshape the arrays: the weights. -/
theorem tail5 (c : Dev nD) : Pipeline.afterTail₀ cfgs (dats m) 0 (V0 m) [hostOps1] c main_v5
    = shapeCast S4x4096x64 ((dats m 0 c).arrAt 7 cfg0.N) shapeCasts_S16384x64_S4x4096x64 := by
  unfold Pipeline.afterTail₀
  show StableHlo.after hostOps1 _ (Proc.devRef .tc main_v5) = _
  after_results
  exact congrArg (fun x => shapeCast S4x4096x64 x shapeCasts_S16384x64_S4x4096x64) (Pipeline.withArrays_arr spec0 (by decide) c _ _ 7)

/-- The load-balancing loss. -/
theorem tail6 (c : Dev nD) : Pipeline.afterTail₀ cfgs (dats m) 0 (V0 m) [hostOps1] c main_v6
    = shapeCast S_ ((dats m 0 c).arrAt 10 cfg0.N) shapeCasts_S1x1_S_ := by
  unfold Pipeline.afterTail₀
  show StableHlo.after hostOps1 _ (Proc.devRef .tc main_v6) = _
  after_results
  exact congrArg (fun x => shapeCast S_ x shapeCasts_S1x1_S_) (Pipeline.withArrays_arr spec0 (by decide) c _ _ 10)

/-- The entropy. -/
theorem tail7 (c : Dev nD) : Pipeline.afterTail₀ cfgs (dats m) 0 (V0 m) [hostOps1] c main_v7
    = shapeCast S_ ((dats m 0 c).arrAt 11 cfg0.N) shapeCasts_S1x1_S_ := by
  unfold Pipeline.afterTail₀
  show StableHlo.after hostOps1 _ (Proc.devRef .tc main_v7) = _
  after_results
  exact congrArg (fun x => shapeCast S_ x shapeCasts_S1x1_S_) (Pipeline.withArrays_arr spec0 (by decide) c _ _ 11)

/-- The utilization. -/
theorem tail8 (c : Dev nD) : Pipeline.afterTail₀ cfgs (dats m) 0 (V0 m) [hostOps1] c main_v8
    = shapeCast S64 ((dats m 0 c).arrAt 12 cfg0.N) shapeCasts_S1x64_S64 := by
  unfold Pipeline.afterTail₀
  show StableHlo.after hostOps1 _ (Proc.devRef .tc main_v8) = _
  after_results
  exact congrArg (fun x => shapeCast S64 x shapeCasts_S1x64_S64) (Pipeline.withArrays_arr spec0 (by decide) c _ _ 12)

/-- The confidence. -/
theorem tail9 (c : Dev nD) : Pipeline.afterTail₀ cfgs (dats m) 0 (V0 m) [hostOps1] c main_v9
    = shapeCast S_ ((dats m 0 c).arrAt 9 cfg0.N) shapeCasts_S1x1_S_ := by
  unfold Pipeline.afterTail₀
  show StableHlo.after hostOps1 _ (Proc.devRef .tc main_v9) = _
  after_results
  exact congrArg (fun x => shapeCast S_ x shapeCasts_S1x1_S_) (Pipeline.withArrays_arr spec0 (by decide) c _ _ 9)

/-- The usage. -/
theorem tail10 (c : Dev nD) : Pipeline.afterTail₀ cfgs (dats m) 0 (V0 m) [hostOps1] c main_v10
    = shapeCast S64 ((dats m 0 c).arrAt 8 cfg0.N) shapeCasts_S1x64_S64 := by
  unfold Pipeline.afterTail₀
  show StableHlo.after hostOps1 _ (Proc.devRef .tc main_v10) = _
  after_results
  exact congrArg (fun x => shapeCast S64 x shapeCasts_S1x64_S64) (Pipeline.withArrays_arr spec0 (by decide) c _ _ 8)

end Cert.KernelIdeal.Final
end
-- ==== Proof.Top.lean ====
module

public import proofs.«01_k».proof.Proof.Row
public import Idealize.ShloMosaic.Lib.ValueIdx
public import Idealize.ShloMosaic.Lib.Routing.OpsSet
public import Idealize.ShloMosaic.Lib.Routing.OpsPair
public import Idealize.ShloMosaic.Lib.Pipeline.Value
public import Idealize.ShloMosaic.Lib.WordArith
public import Idealize.ShloMosaic.Lib.Pointwise.Index

@[expose] public section

/-! # Top-k, the mask it scatters, and sums over the host's arrays

  Host operations over a table of 16384 rows of 64 entries, read row by row: the greatest entries and where they lie, the
  mask holding one at two named columns of each row, and sums over several axes. -/

set_option maxRecDepth 16384

noncomputable section

namespace Cert.Router

open Idealize.ShloMosaic Idealize.ShloMosaic.Routing

/-! ## Top-k of a row -/

/-- The index a slice at offset zero reads, moved along the row to column `e`, is column `e` of the same row. -/
theorem along_row {k : ℕ} (h : Shape.Slices ⟨2, ![16384, 64]⟩ (fun _ => 0) ⟨2, ![16384, k]⟩) (T : Fin 16384) (j : Fin k) (e : Fin 64) :
    Shape.Idx.along (s := ⟨2, ![16384, 64]⟩)
      (fun a => ⟨0 + ((ix2 T j : Shape.Idx ⟨2, ![16384, k]⟩) (a.cast h.1.symm)).val,
        Nat.lt_of_lt_of_le (Nat.add_lt_add_left ((ix2 T j : Shape.Idx ⟨2, ![16384, k]⟩) _).isLt _) (h.2 a)⟩) 1 e
      = ix2 T e := by
  funext a
  match a with
  | ⟨0, _⟩ =>
    refine (Function.update_of_ne (fun q => absurd (congrArg Fin.val q) Nat.zero_ne_one) _ _).trans (Fin.ext ?_)
    exact Nat.zero_add _
  | ⟨1, _⟩ => exact Function.update_self _ _ _

/-- The `j`-th greatest entry of row `T` is the row at the position the stable sort puts there. -/
theorem topK_value {k : ℕ} (x : Shape.Idx ⟨2, ![16384, 64]⟩ → EReal)
    (h : Shape.Slices ⟨2, ![16384, 64]⟩ (fun _ => 0) ⟨2, ![16384, k]⟩) (T : Fin 16384) (j : Fin k) (hj : j.val < 64) :
    (Host.topK ⟨2, ![16384, k]⟩ 1 (FloatOps.cmpfTotal (F := Ideal) (φ := .f32) .gt) x h).1 (ix2 T j)
      = x (ix2 T (pos (fun e => x (ix2 T e)) ⟨j.val, hj⟩)) := by
  unfold Host.topK Host.sort2
  dsimp only
  rw [dif_pos (show 1 < Shape.rank ⟨2, ![16384, 64]⟩ by decide)]
  unfold extractStridedSlice
  dsimp only
  refine congrArg x ((along_row h T j _).trans (congrArg (ix2 T) ?_))
  unfold pos
  refine congrArg₂ sortedFrom (funext fun a => funext fun b => ?_) (Fin.ext (Nat.zero_add _))
  exact congrArg₂ (fun p q => FloatOps.cmpfTotal (F := Ideal) (φ := .f32) .gt (x p) (x q) == 1#1) (along_row h T j a) (along_row h T j b)

/-- The index word of the `j`-th greatest entry of row `T` is that position. -/
theorem topK_index {k : ℕ} (x : Shape.Idx ⟨2, ![16384, 64]⟩ → EReal)
    (h : Shape.Slices ⟨2, ![16384, 64]⟩ (fun _ => 0) ⟨2, ![16384, k]⟩) (T : Fin 16384) (j : Fin k) (hj : j.val < 64) :
    (Host.topK ⟨2, ![16384, k]⟩ 1 (FloatOps.cmpfTotal (F := Ideal) (φ := .f32) .gt) x h).2 (ix2 T j)
      = BitVec.ofNat 32 (pos (fun e => x (ix2 T e)) ⟨j.val, hj⟩).val := by
  unfold Host.topK Host.sort2
  dsimp only
  rw [dif_pos (show 1 < Shape.rank ⟨2, ![16384, 64]⟩ by decide)]
  unfold extractStridedSlice
  dsimp only
  rw [dif_pos (show 1 < Shape.rank ⟨2, ![16384, 64]⟩ by decide)]
  refine congrArg (BitVec.ofNat 32) ((congrArg (fun i : Shape.Idx ⟨2, ![16384, 64]⟩ => (i 1).val) (along_row h T j _)).trans (congrArg Fin.val ?_))
  unfold pos
  refine congrArg₂ sortedFrom (funext fun a => funext fun b => ?_) (Fin.ext (Nat.zero_add _))
  exact congrArg₂ (fun p q => FloatOps.cmpfTotal (F := Ideal) (φ := .f32) .gt (x p) (x q) == 1#1) (along_row h T j a) (along_row h T j b)

/-! ## The mask -/

/-- Ones scattered over zeros at two columns of each row: one at those columns, zero elsewhere. -/
theorem mask_at (d : ScatterDims ⟨2, ![16384, 64]⟩ ⟨3, ![16384, 2, 2]⟩ ⟨2, ![16384, 2]⟩) (hiw : d.insertedWindowDims = [0, 1])
    (hsd : d.scatterDimsToOperandDims = [0, 1]) (hivd : d.indexVectorDim = 2) (x0 : Shape.Idx ⟨2, ![16384, 64]⟩ → EReal)
    (idx : IVec ⟨3, ![16384, 2, 2]⟩ 32) (upd : Shape.Idx ⟨2, ![16384, 2]⟩ → EReal) (p : Fin 16384 → Fin 2 → Fin 64)
    (hx : ∀ i, x0 i = 0) (hu : ∀ i, upd i = 1)
    (h0 : ∀ T j, idx (ix3 T j (0 : Fin 2)) = BitVec.ofNat 32 T.val)
    (h1 : ∀ T j, idx (ix3 T j (1 : Fin 2)) = BitVec.ofNat 32 (p T j).val) (T : Fin 16384) (e : Fin 64) :
    Host.scatter d (fun _ b => b) x0 idx upd (ix2 T e) = if e = p T 0 ∨ e = p T 1 then 1 else 0 := by
  have lands : ∀ (a : Fin 16384) (b : Fin 2), d.resultIdx? (ix2 a b) idx = some (ix2 T e) ↔ a = T ∧ p a b = e := fun a b => by
    refine (scatter_lands2 d hiw hsd hivd idx a b T e).trans ?_
    show (idx (ix3 a b 0)).toInt = T.val ∧ (idx (ix3 a b 1)).toInt = e.val ↔ _
    rw [h0, h1, StableHlo.Predicate.toInt_ofNat_small _ (by have := a.isLt; omega), StableHlo.Predicate.toInt_ofNat_small _ (by have := (p a b).isLt; omega)]
    constructor
    · intro ⟨u, v⟩; exact ⟨Fin.ext (by omega), Fin.ext (by omega)⟩
    · rintro ⟨rfl, rfl⟩; exact ⟨rfl, rfl⟩
  by_cases h : e = p T 0 ∨ e = p T 1
  · rw [if_pos h]
    rcases h with h | h
    · exact scatter_set_hit d x0 idx upd _ _ (fun k _ => hu k) (ix2 T 0) ((lands T 0).2 ⟨rfl, h.symm⟩)
    · exact scatter_set_hit d x0 idx upd _ _ (fun k _ => hu k) (ix2 T 1) ((lands T 1).2 ⟨rfl, h.symm⟩)
  · rw [if_neg h, ← hx (ix2 T e)]
    refine scatter_set_miss d x0 idx upd _ fun k hk => h ?_
    have hk' := (lands (k 0) (k 1)).1 ((congrArg (fun k => d.resultIdx? k idx) (eq_ix2 k).symm).trans hk)
    obtain ⟨ha, hb⟩ := hk'
    rw [ha] at hb
    have hc : ∀ c : Fin 2, p T c = e → e = p T 0 ∨ e = p T 1 := fun c hc => by
      fin_cases c
      · exact Or.inl hc.symm
      · exact Or.inr hc.symm
    exact hc _ hb

/-- The first of two words joined along a new last axis. -/
theorem pair_first (x y : IVec ⟨3, ![16384, 2, 1]⟩ 32)
    (h : Shape.Concatenates [⟨3, ![16384, 2, 1]⟩, ⟨3, ![16384, 2, 1]⟩] ⟨3, ![16384, 2, 2]⟩ 2) (T : Fin 16384) (j : Fin 2) :
    concatenate ⟨3, ![16384, 2, 2]⟩ 2 [⟨⟨3, ![16384, 2, 1]⟩, x⟩, ⟨⟨3, ![16384, 2, 1]⟩, y⟩] h (ix3 T j 0) = x (ix3 T j 0) := by
  refine concatenate_pair_apply_left (t := ⟨3, ![16384, 2, 2]⟩) (s₁ := ⟨3, ![16384, 2, 1]⟩) (s₂ := ⟨3, ![16384, 2, 1]⟩) 2 x y h
    (ix3 T j 0) rfl (ix3 T j 0) fun b => ?_
  match b with | ⟨0, _⟩ => rfl | ⟨1, _⟩ => rfl | ⟨2, _⟩ => rfl

/-- The second of two words joined along a new last axis. -/
theorem pair_second (x y : IVec ⟨3, ![16384, 2, 1]⟩ 32)
    (h : Shape.Concatenates [⟨3, ![16384, 2, 1]⟩, ⟨3, ![16384, 2, 1]⟩] ⟨3, ![16384, 2, 2]⟩ 2) (T : Fin 16384) (j : Fin 2) :
    concatenate ⟨3, ![16384, 2, 2]⟩ 2 [⟨⟨3, ![16384, 2, 1]⟩, x⟩, ⟨⟨3, ![16384, 2, 1]⟩, y⟩] h (ix3 T j 1) = y (ix3 T j 0) := by
  refine concatenate_pair_apply_right (t := ⟨3, ![16384, 2, 2]⟩) (s₁ := ⟨3, ![16384, 2, 1]⟩) (s₂ := ⟨3, ![16384, 2, 1]⟩) 2 x y h
    (ix3 T j 1) rfl rfl (ix3 T j 0) (fun b hb => ?_) rfl
  match b with
  | ⟨0, _⟩ => rfl
  | ⟨1, _⟩ => rfl
  | ⟨2, _⟩ => exact absurd rfl hb

/-! ## Sums and row maxima -/

/-- Zero and the sum over a vector of 64 is the sum over its positions. -/
theorem sum_64 (f : Shape.Idx ⟨1, ![64]⟩ → EReal) (g : Fin 64 → EReal) (h : ∀ e, f (ix1 e) = g e) : 0 + ∑ j, f j = ∑ e, g e := by
  rw [zero_add, sum_idx1 (n0 := 64)]
  exact Finset.sum_congr rfl fun e _ => h e

/-- The row number of token `s` of sequence `b`. -/
def tok (b : Fin 4) (s : Fin 4096) : Fin 16384 := ⟨4096 * b.val + s.val, by have := b.isLt; have := s.isLt; omega⟩

/-- A sum over sequences and their tokens is the sum over all rows. -/
theorem sum_tok (f : Fin 16384 → EReal) : ∑ b, ∑ s, f (tok b s) = ∑ T, f T :=
  sum_blocks (m := 4) (n := 4096) rfl f tok fun _ _ => rfl

/-- The host's sum over the first two axes, at the third's entry `e`. -/
theorem reduceAdd_01 (h : Shape.ReducesTo ⟨3, ![4, 4096, 64]⟩ [0, 1] ⟨1, ![64]⟩) (x : Shape.Idx ⟨3, ![4, 4096, 64]⟩ → EReal)
    (init : EReal) (e : Fin 64) :
    Ideal.hostReduceAdd h x init (ix1 e) = init + ∑ b : Fin 4, ∑ s : Fin 4096, x (ix3 b s e) := by
  unfold Ideal.hostReduceAdd
  refine congrArg (init + ·) ?_
  rw [← Fintype.sum_prod_type (f := fun q : Fin 4 × Fin 4096 => x (ix3 q.1 q.2 e))]
  have hd : ∀ i : Shape.Idx ⟨3, ![4, 4096, 64]⟩, (h.drop i 0).val = (i 2).val := fun i =>
    h.drop_apply_val_of_eq i 0 2 (by decide) (by decide)
  refine Finset.sum_bij' (fun i _ => (i 0, i 1)) (fun q _ => ix3 q.1 q.2 e) (fun _ _ => Finset.mem_univ _) (fun q _ => ?_)
    (fun i hi => ?_) (fun _ _ => rfl) (fun i hi => ?_)
  · refine Finset.mem_filter.2 ⟨Finset.mem_univ _, ?_⟩
    rw [eq_ix1 (h.drop _)]
    exact congrArg ix1 (Fin.ext (hd _))
  · have e2 : i 2 = e := Fin.ext ((hd i).symm.trans (congrArg (fun j : Shape.Idx ⟨1, ![64]⟩ => (j 0).val) (Finset.mem_filter.1 hi).2))
    subst e2
    exact (eq_ix3 i).symm
  · have e2 : i 2 = e := Fin.ext ((hd i).symm.trans (congrArg (fun j : Shape.Idx ⟨1, ![64]⟩ => (j 0).val) (Finset.mem_filter.1 hi).2))
    subst e2
    exact congrArg x (eq_ix3 i)

/-- The word of the least value is the least extended real. -/
theorem ofBits_bot : Ideal.ofBits .f32 0xFF800000#32 = ⊥ := by simp [Ideal.ofBits, Ideal.ieee]

/-- The host's maximum over the rows of a table, started from the least value, at row `T`. -/
theorem reduceMax_row {u : Shape} (h' : Shape.ReducesTo ⟨2, ![16384, 64]⟩ [1] ⟨1, ![16384]⟩) (x : FVec Ideal ⟨2, ![16384, 64]⟩ .f32)
    (init : FVec Ideal u .f32) (hu : 0 < u.numel) (hi : ∀ i, init i = (⊥ : EReal)) (T : Fin 16384) :
    Host.reduce FloatOps.maximumf x init h' hu (ix1 T) = rowMax fun e => x (ix2 T e) := by
  rw [Host.reduce_eq_fold_single _ x init h' (by decide) hu, hi]
  unfold rowMax
  refine congrArg (Finset.fold max ⊥ · Finset.univ) (funext fun e => congrArg x ?_)
  exact funext fun a => Fin.ext (by match a with | ⟨0, _⟩ => rfl | ⟨1, _⟩ => rfl)

/-- The same over the last axis of the sequences' table. -/
theorem reduceMax_last {u : Shape} (h' : Shape.ReducesTo ⟨3, ![4, 4096, 64]⟩ [2] ⟨2, ![4, 4096]⟩) (x : FVec Ideal ⟨3, ![4, 4096, 64]⟩ .f32)
    (init : FVec Ideal u .f32) (hu : 0 < u.numel) (hi : ∀ i, init i = (⊥ : EReal)) (b : Fin 4) (s : Fin 4096) :
    Host.reduce FloatOps.maximumf x init h' hu (ix2 b s) = rowMax fun e => x (ix3 b s e) := by
  rw [Host.reduce_eq_fold_single _ x init h' (by decide) hu, hi]
  unfold rowMax
  refine congrArg (Finset.fold max ⊥ · Finset.univ) (funext fun e => congrArg x ?_)
  exact funext fun a => Fin.ext (by match a with | ⟨0, _⟩ => rfl | ⟨1, _⟩ => rfl | ⟨2, _⟩ => rfl)

end Cert.Router

end
-- ==== Proof.Results.lean ====
module

public import proofs.«01_k».proof.Proof.Final
public import proofs.«01_k».proof.Proof.Top

@[expose] public section

/-! # The kernel's six results

  The six result arrays of the kernel's run as functions of the arguments: the routing weights, the load-balancing loss,
  the entropy, the utilization, the confidence and the usage. -/

set_option maxRecDepth 16384

noncomputable section

namespace Cert.KernelIdeal.Results

open Cert.KernelIdeal Cert.KernelIdeal.Gen Cert.KernelIdeal.Fold Cert.KernelIdeal.Final Cert.Router
open Idealize.ShloMosaic Idealize.ShloMosaic.TcCoe Idealize.SL.Sem

variable (m : (ℓ : Loc nD τ sig) → Buf (Elt Ideal) ℓ)

/-- The usage of entry `e`: its weight over all rows. -/
def usage (c : Dev nD) (e : Fin 64) : EReal := ∑ T, kernelRow (logits m c T) e

/-- The routing weights. -/
def weights (c : Dev nD) : FVec Ideal S4x4096x64 .f32 := fun i => kernelRow (logits m c (tok (i 0) (i 1))) (i 2)
/-- The load-balancing loss. -/
def loss (c : Dev nD) : FVec Ideal S_ .f32 := fun _ =>
  (∑ e, (usage m c e - ((256 : ℝ) : EReal)) * (usage m c e - ((256 : ℝ) : EReal))) * Ideal.ofBits .f32 0x3923D70A#32
/-- The entropy of the shares. -/
def entropy (c : Dev nD) : FVec Ideal S_ .f32 := fun _ =>
  0 - ∑ e, usage m c e * ((1 / 16384 : ℝ) : EReal) * Ideal.log (usage m c e * ((1 / 16384 : ℝ) : EReal) + Ideal.ofBits .f32 0x322BCC77#32)
/-- The utilization of each entry. -/
def utilization (c : Dev nD) : FVec Ideal S64 .f32 := fun i => usage m c (i 0) * ((1 / 16384 : ℝ) : EReal)
/-- The mean greatest weight. -/
def confidence (c : Dev nD) : FVec Ideal S_ .f32 := fun _ => (∑ T, kernelTop (logits m c T)) * ((1 / 16384 : ℝ) : EReal)
/-- The usage of each entry. -/
def usages (c : Dev nD) : FVec Ideal S64 .f32 := fun i => usage m c (i 0)

/-! ## Reshapes -/

/-- The weights' array split into sequences of tokens. -/
theorem split_at (x : FVec Ideal S16384x64 .f32) (b : Fin 4) (s : Fin 4096) (e : Fin 64) :
    shapeCast S4x4096x64 x shapeCasts_S16384x64_S4x4096x64 (ix3 b s e) = x (ix2 (tok b s) e) := by
  refine shapeCast_apply x shapeCasts_S16384x64_S4x4096x64 (ix3 b s e) (ix2 (tok b s) e) ?_
  rw [Shape.rowMajor_val_two, Shape.rowMajor_val_three]
  show (4096 * b.val + s.val) * 64 + e.val = (b.val * 4096 + s.val) * 64 + e.val
  rw [Nat.mul_comm 4096]

/-- A one-entry table read as a scalar. -/
theorem one_at (x : FVec Ideal S1x1 .f32) (i : S_.Idx) : shapeCast S_ x shapeCasts_S1x1_S_ i = x (ix2 0 0) := by
  show x _ = x _
  congr 1
  funext a
  match a with
  | ⟨0, _⟩ => exact Subsingleton.elim (α := Fin 1) _ _
  | ⟨1, _⟩ => exact Subsingleton.elim (α := Fin 1) _ _

/-- A one-row table read as a vector. -/
theorem row_at (x : FVec Ideal S1x64 .f32) (e : Fin 64) : shapeCast S64 x shapeCasts_S1x64_S64 (ix1 e) = x (ix2 0 e) := by pointwise

/-! ## The results -/

/-- The first result: the routing weights. -/
theorem res5 (c : Dev nD) : Pipeline.afterTail₀ cfgs (dats m) 0 (V0 m) [hostOps1] c main_v5 = weights m c := by
  rw [tail5, final7]
  funext i
  rw [eq_ix3 i]
  exact split_at _ _ _ _

/-- The second: the load-balancing loss. -/
theorem res6 (c : Dev nD) : Pipeline.afterTail₀ cfgs (dats m) 0 (V0 m) [hostOps1] c main_v6 = loss m c := by
  rw [tail6, final10]
  funext i
  refine (one_at _ i).trans ((last_lbl m c).trans ?_)
  simp only [usageSum_eq]
  rfl

/-- The third: the entropy. -/
theorem res7 (c : Dev nD) : Pipeline.afterTail₀ cfgs (dats m) 0 (V0 m) [hostOps1] c main_v7 = entropy m c := by
  rw [tail7, final11]
  funext i
  refine (one_at _ i).trans ((last_ent m c).trans ?_)
  simp only [usageSum_eq]
  rfl

/-- The fourth: the utilization. -/
theorem res8 (c : Dev nD) : Pipeline.afterTail₀ cfgs (dats m) 0 (V0 m) [hostOps1] c main_v8 = utilization m c := by
  rw [tail8, final12]
  funext i
  rw [eq_ix1 i]
  refine (row_at _ _).trans ((last_util m c _).trans ?_)
  exact congrArg (· * ((1 / 16384 : ℝ) : EReal)) (usageSum_eq m c (i 0))

/-- The fifth: the confidence. -/
theorem res9 (c : Dev nD) : Pipeline.afterTail₀ cfgs (dats m) 0 (V0 m) [hostOps1] c main_v9 = confidence m c := by
  rw [tail9, final9]
  funext i
  refine (one_at _ i).trans ((last_conf m c).trans ?_)
  rw [confSum_eq]
  rfl

/-- The sixth: the usage. -/
theorem res10 (c : Dev nD) : Pipeline.afterTail₀ cfgs (dats m) 0 (V0 m) [hostOps1] c main_v10 = usages m c := by
  rw [tail10, final8]
  funext i
  rw [eq_ix1 i]
  exact (row_at _ _).trans ((last_usage m c _).trans (usageSum_eq m c (i 0)))

/-- Every run of the kernel ends with the six results at these values and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v5) = weights m c
      ∧ r.2.mem ((c.tc : Thread nD τ).loc main_v6) = loss m c
      ∧ r.2.mem ((c.tc : Thread nD τ).loc main_v7) = entropy m c
      ∧ r.2.mem ((c.tc : Thread nD τ).loc main_v8) = utilization m c
      ∧ r.2.mem ((c.tc : Thread nD τ).loc main_v9) = confidence m c
      ∧ r.2.mem ((c.tc : Thread nD τ).loc main_v10) = usages m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
      ((h.1 c).2 main_v5 (Pipeline.mem_restRefs_of main_v5 (by decide) (by decide))).trans (res5 m c),
      ((h.1 c).2 main_v6 (Pipeline.mem_restRefs_of main_v6 (by decide) (by decide))).trans (res6 m c),
      ((h.1 c).2 main_v7 (Pipeline.mem_restRefs_of main_v7 (by decide) (by decide))).trans (res7 m c),
      ((h.1 c).2 main_v8 (Pipeline.mem_restRefs_of main_v8 (by decide) (by decide))).trans (res8 m c),
      ((h.1 c).2 main_v9 (Pipeline.mem_restRefs_of main_v9 (by decide) (by decide))).trans (res9 m c),
      ((h.1 c).2 main_v10 (Pipeline.mem_restRefs_of main_v10 (by decide) (by decide))).trans (res10 m c),
      h.2 c⟩) (θ_run_and (run_main m ρ) (unchanged m ρ))

end Cert.KernelIdeal.Results

end
-- ==== Proof.Ref.lean ====
module

public import proofs.«01_k».proof.Proof.Top
public import proofs.«01_k».proof.Proof.Gen.ReferenceIdeal.Read

@[expose] public section

/-! # The reference's values

  What the reference's operations compute, row by row: the logits of the three-layer network, their softmax, the mask of
  its two greatest entries, the normalized weights, and the statistics over all rows. -/

set_option maxRecDepth 16384

noncomputable section

namespace Cert.ReferenceIdeal.Router

open Cert.ReferenceIdeal Cert.ReferenceIdeal.Gen Cert.ReferenceIdeal.Read Cert.Router
open Idealize.ShloMosaic Idealize.ShloMosaic.TcCoe Idealize.SL.Sem

variable (x0 : (⟨S4x4096x4096, .f32⟩ : BufTy).Contents (Elt Ideal)) (x1 : (⟨S4096x512, .f32⟩ : BufTy).Contents (Elt Ideal))
  (x2 : (⟨S512, .f32⟩ : BufTy).Contents (Elt Ideal)) (x3 : (⟨S512x256, .f32⟩ : BufTy).Contents (Elt Ideal))
  (x4 : (⟨S256, .f32⟩ : BufTy).Contents (Elt Ideal)) (x5 : (⟨S256x64, .f32⟩ : BufTy).Contents (Elt Ideal))
  (x6 : (⟨S64, .f32⟩ : BufTy).Contents (Elt Ideal))

/-- The logits of row `T`. -/
def L (T : Fin 16384) : Fin 64 → EReal :=
  mlp (fun i => shapeCast S16384x4096 x0 shapeCasts_S4x4096x4096_S16384x4096 (ix2 T i)) (fun i j => x1 (ix2 i j)) (fun j => x2 (ix1 j))
    (fun j k => x3 (ix2 j k)) (fun k => x4 (ix1 k)) (fun k e => x5 (ix2 k e)) (fun e => x6 (ix1 e))

/-! ## Constants -/

/-- The word of 0. -/
theorem c_zero : (FloatOps.ofBits .f32 0x00000000#32 : Ideal .f32) = (0 : EReal) := Ideal.ofBits_zero_f32

/-- The word of 1. -/
theorem c_one : (FloatOps.ofBits .f32 0x3F800000#32 : Ideal .f32) = (1 : EReal) := by
  show Ideal.ofBits .f32 0x3F800000#32 = 1
  simp [Ideal.ofBits, Ideal.ieee, -EReal.coe_mul]; norm_num

/-- The word of −∞. -/
theorem c_bot : (FloatOps.ofBits .f32 0xFF800000#32 : Ideal .f32) = (⊥ : EReal) := ofBits_bot

/-- Division by the number of rows is multiplication by its reciprocal. -/
theorem div_rows (x : EReal) : Ideal.div x (FloatOps.ofBits .f32 0x46800000#32 : Ideal .f32) = x * ((1 / 16384 : ℝ) : EReal) := by
  have h : (FloatOps.ofBits .f32 0x46800000#32 : Ideal .f32) = ((16384 : ℝ) : EReal) := by
    show Ideal.ofBits .f32 0x46800000#32 = _
    simp [Ideal.ofBits, Ideal.ieee, -EReal.coe_mul]; norm_num
  rw [h, Ideal.div_coe (by norm_num), one_div]

/-! ## The logits -/

/-- The first layer of row `T`. -/
theorem v6_at (T : Fin 16384) (j : Fin 512) : val_main_v6 (F := Ideal) x0 x1 x2 (ix2 T j)
    = max (∑ i, shapeCast S16384x4096 x0 shapeCasts_S4x4096x4096_S16384x4096 (ix2 T i) * x1 (ix2 i j) + x2 (ix1 j)) 0 := by
  rw [val_main_v6_apply, val_main_v4_apply, val_main_v1_apply, val_main_v3_apply, val_main_v2_apply, val_main_v5_apply,
    val_main_cst_apply, c_zero]
  unfold val_main_v0
  refine congrArg (max · 0) (congrArg₂ (· + ·) (Finset.sum_congr rfl fun i _ => ?_) (congrArg x2 (eq_ix1 _)))
  exact congrArg₂ (· * ·) (congrArg _ (eq_ix2 _)) (congrArg x1 (eq_ix2 _))

/-- The second layer of row `T`. -/
theorem v12_at (T : Fin 16384) (k : Fin 256) : val_main_v12 (F := Ideal) x0 x1 x2 x3 x4 (ix2 T k)
    = max (∑ j, val_main_v6 (F := Ideal) x0 x1 x2 (ix2 T j) * x3 (ix2 j k) + x4 (ix1 k)) 0 := by
  rw [val_main_v12_apply, val_main_v10_apply, val_main_v7_apply, val_main_v9_apply, val_main_v8_apply, val_main_v11_apply,
    val_main_cst_0_apply, c_zero]
  refine congrArg (max · 0) (congrArg₂ (· + ·) (Finset.sum_congr rfl fun i _ => ?_) (congrArg x4 (eq_ix1 _)))
  exact congrArg₂ (· * ·) (congrArg _ (eq_ix2 _)) (congrArg x3 (eq_ix2 _))

/-- The logits of row `T`; the division by the temperature one changes nothing. -/
theorem v18_at (T : Fin 16384) (e : Fin 64) : val_main_v18 (F := Ideal) x0 x1 x2 x3 x4 x5 x6 (ix2 T e) = L x0 x1 x2 x3 x4 x5 x6 T e := by
  rw [val_main_v18_apply, val_main_v16_apply, val_main_v13_apply, val_main_v15_apply, val_main_v14_apply, val_main_v17_apply,
    val_main_cst_1_apply, c_one]
  refine Eq.trans (b := ∑ k, val_main_v12 (F := Ideal) x0 x1 x2 x3 x4 (ix2 T k) * x5 (ix2 k e) + x6 (ix1 e)) ?_ ?_
  · refine Eq.trans (b := Ideal.div _ 1) rfl ?_
    rw [show (1 : EReal) = ((1 : ℝ) : EReal) from rfl, Ideal.div_coe one_ne_zero, div_one, EReal.coe_one, mul_one]
    refine congrArg₂ (· + ·) (Finset.sum_congr rfl fun i _ => ?_) (congrArg x6 (eq_ix1 _))
    exact congrArg₂ (· * ·) (congrArg _ (eq_ix2 _)) (congrArg x5 (eq_ix2 _))
  · simp only [v12_at, v6_at]
    rfl

/-! ## The softmax and the mask -/

/-- The row's greatest logit. -/
theorem v21_at (T : Fin 16384) : val_main_v21 (F := Ideal) x0 x1 x2 x3 x4 x5 x6 (ix1 T) = rowMax (L x0 x1 x2 x3 x4 x5 x6 T) := by
  rw [val_main_v21_apply, val_main_v20_apply, val_main_cst_3_apply, c_bot]
  unfold val_main_v19
  rw [reduceMax_row reducesTo_S16384x64_S16384_d1 (val_main_v18 (F := Ideal) x0 x1 x2 x3 x4 x5 x6) (val_main_cst_2 (F := Ideal)) h_S_ (fun _ => c_bot) T]
  refine (max_eq_right bot_le).trans (congrArg rowMax (funext fun e => v18_at x0 x1 x2 x3 x4 x5 x6 T e))

/-- The exponential of a logit less the row's greatest. -/
theorem v25_at (T : Fin 16384) (e : Fin 64) : val_main_v25 (F := Ideal) x0 x1 x2 x3 x4 x5 x6 (ix2 T e)
    = Ideal.exp (L x0 x1 x2 x3 x4 x5 x6 T e - rowMax (L x0 x1 x2 x3 x4 x5 x6 T)) := by
  rw [val_main_v25_apply, val_main_v24_apply, val_main_v23_apply, val_main_v22_apply, v18_at]
  rw [eq_ix1 (idx_main_v22 _)]
  exact congrArg (fun q : EReal => Ideal.exp (L x0 x1 x2 x3 x4 x5 x6 T e - q)) (v21_at x0 x1 x2 x3 x4 x5 x6 T)

/-- The softmax of the row. -/
theorem v29_at (T : Fin 16384) (e : Fin 64) : val_main_v29 (F := Ideal) x0 x1 x2 x3 x4 x5 x6 (ix2 T e) = softmax (L x0 x1 x2 x3 x4 x5 x6 T) e := by
  rw [val_main_v29_apply, val_main_v28_apply, val_main_v27_apply, val_main_v26_apply, val_main_cst_4_apply, c_zero, v25_at]
  refine congrArg (Ideal.div _) ((zero_add _).trans (Finset.sum_congr rfl fun k _ => ?_))
  rw [eq_ix2 (idx_main_v26 _ _)]
  exact v25_at x0 x1 x2 x3 x4 x5 x6 T k

/-- The index words of the two greatest entries of the softmax. -/
theorem indices_at (T : Fin 16384) (j : Fin 2) : val_main_indices (F := Ideal) x0 x1 x2 x3 x4 x5 x6 (ix2 T j)
    = BitVec.ofNat 32 (pos (softmax (L x0 x1 x2 x3 x4 x5 x6 T)) (j.castLE (by decide))).val := by
  unfold val_main_indices
  refine (topK_index _ _ T j (lt_trans j.isLt (by decide))).trans ?_
  rw [show (fun e => val_main_v29 (F := Ideal) x0 x1 x2 x3 x4 x5 x6 (ix2 T e)) = softmax (L x0 x1 x2 x3 x4 x5 x6 T) from funext fun e => v29_at x0 x1 x2 x3 x4 x5 x6 T e]
  rfl

/-- The row words. -/
theorem v44_at (T : Fin 16384) (j : Fin 2) (z : Fin 1) : val_main_v44 (F := Ideal) (ix3 T j z) = BitVec.ofNat 32 T.val := by
  rw [val_main_v44_apply, val_main_v43_apply, val_main_v37_apply, val_main_v34_apply, val_main_v33_apply, val_main_c_apply,
    val_main_v32_apply, val_main_v31_apply]
  refine Routing.wrap_of_lt _ _ ?_
  show (BitVec.ofNat 32 T.val).toNat < _
  rw [BitVec.toNat_ofNat]
  have := T.isLt
  omega

/-- The column words. -/
theorem v45_at (T : Fin 16384) (j : Fin 2) (z : Fin 1) : val_main_v45 (F := Ideal) x0 x1 x2 x3 x4 x5 x6 (ix3 T j z)
    = BitVec.ofNat 32 (pos (softmax (L x0 x1 x2 x3 x4 x5 x6 T)) (j.castLE (by decide))).val := by
  rw [val_main_v45_apply, val_main_v42_apply, val_main_v39_apply, val_main_v38_apply, val_main_c_7_apply]
  rw [show idx_main_v45 (ix3 T j z) = ix2 T j from eq_ix2 _, indices_at]
  refine Routing.wrap_of_lt _ _ ?_
  rw [BitVec.toNat_ofNat]
  have := (pos (softmax (L x0 x1 x2 x3 x4 x5 x6 T)) (j.castLE (by decide))).isLt
  omega

/-- The mask of the two greatest entries of the softmax. -/
theorem v48_at (T : Fin 16384) (e : Fin 64) : val_main_v48 (F := Ideal) x0 x1 x2 x3 x4 x5 x6 (ix2 T e)
    = if e = pos (softmax (L x0 x1 x2 x3 x4 x5 x6 T)) 0 ∨ e = pos (softmax (L x0 x1 x2 x3 x4 x5 x6 T)) 1 then 1 else 0 := by
  unfold val_main_v48
  refine mask_at scatter_S16384x64_S16384x2x2_S16384x2_n_01_01_2 rfl rfl rfl _ _ _
    (fun T j => pos (softmax (L x0 x1 x2 x3 x4 x5 x6 T)) (j.castLE (by decide))) (fun i => ?_) (fun i => ?_) (fun T j => ?_) (fun T j => ?_) T e
  · rw [val_main_v30_apply, val_main_cst_5_apply]; exact c_zero
  · rw [val_main_v47_apply, val_main_cst_9_apply]; exact c_one
  · exact (pair_first (val_main_v44 (F := Ideal)) (val_main_v45 (F := Ideal) x0 x1 x2 x3 x4 x5 x6) _ T j).trans (v44_at T j 0)
  · exact (pair_second (val_main_v44 (F := Ideal)) (val_main_v45 (F := Ideal) x0 x1 x2 x3 x4 x5 x6) _ T j).trans (v45_at x0 x1 x2 x3 x4 x5 x6 T j 0)

/-! ## The weights -/

/-- The masked softmax. -/
theorem v49_at (T : Fin 16384) (e : Fin 64) : val_main_v49 (F := Ideal) x0 x1 x2 x3 x4 x5 x6 (ix2 T e)
    = masked (L x0 x1 x2 x3 x4 x5 x6 T) (pos (softmax (L x0 x1 x2 x3 x4 x5 x6 T)) 0) (pos (softmax (L x0 x1 x2 x3 x4 x5 x6 T)) 1) e := by
  rw [val_main_v49_apply, v29_at, v48_at]
  rfl

/-- The masked softmax over its own sum. -/
theorem v53_at (T : Fin 16384) (e : Fin 64) : val_main_v53 (F := Ideal) x0 x1 x2 x3 x4 x5 x6 (ix2 T e)
    = Ideal.div (masked (L x0 x1 x2 x3 x4 x5 x6 T) (pos (softmax (L x0 x1 x2 x3 x4 x5 x6 T)) 0) (pos (softmax (L x0 x1 x2 x3 x4 x5 x6 T)) 1) e)
        (∑ e', masked (L x0 x1 x2 x3 x4 x5 x6 T) (pos (softmax (L x0 x1 x2 x3 x4 x5 x6 T)) 0) (pos (softmax (L x0 x1 x2 x3 x4 x5 x6 T)) 1) e') := by
  rw [val_main_v53_apply, val_main_v52_apply, val_main_v51_apply, val_main_v50_apply, val_main_cst_10_apply, c_zero, v49_at]
  refine congrArg (Ideal.div _) ((zero_add _).trans (Finset.sum_congr rfl fun k _ => ?_))
  rw [eq_ix2 (idx_main_v50 _ _)]
  exact v49_at x0 x1 x2 x3 x4 x5 x6 T k

variable (hL : ∀ T, Top2 (L x0 x1 x2 x3 x4 x5 x6 T) (pos (L x0 x1 x2 x3 x4 x5 x6 T) 0) (pos (L x0 x1 x2 x3 x4 x5 x6 T) 1))
include hL

/-- The weights of token `s` of sequence `b`, where every row has its two greatest logits. -/
theorem v54_at (b : Fin 4) (s : Fin 4096) (e : Fin 64) : val_main_v54 (F := Ideal) x0 x1 x2 x3 x4 x5 x6 (ix3 b s e)
    = kernelRow (L x0 x1 x2 x3 x4 x5 x6 (tok b s)) e := by
  have hi : idx_main_v54 (ix3 b s e) = ix2 (tok b s) e := by
    have h0 := b.isLt
    have h1 := s.isLt
    have h2 := e.isLt
    funext a
    match a with
    | ⟨0, _⟩ => exact Fin.ext (show ((b.val * 4096 + s.val) * 64 + e.val) / 64 = 4096 * b.val + s.val by omega)
    | ⟨1, _⟩ => exact Fin.ext (show ((b.val * 4096 + s.val) * 64 + e.val) % 64 = e.val by omega)
  have h := hL (tok b s)
  rw [val_main_v54_apply, hi, v53_at, pos_softmax h, maskedRow_eq h, kernelRow_eq h]

/-! ## The statistics -/

/-- The usage of entry `e`: its weight over all rows. -/
theorem v55_at (e : Fin 64) : val_main_v55 (F := Ideal) x0 x1 x2 x3 x4 x5 x6 (ix1 e) = ∑ T, kernelRow (L x0 x1 x2 x3 x4 x5 x6 T) e := by
  unfold val_main_v55
  simp only [Host.reduceAdd, Ideal.hostReduceAdd_def]
  rw [reduceAdd_01, val_main_cst_11_apply, c_zero]
  refine (zero_add _).trans (Eq.trans ?_ (sum_tok fun T => kernelRow (L x0 x1 x2 x3 x4 x5 x6 T) e))
  exact Finset.sum_congr rfl fun b _ => Finset.sum_congr rfl fun s _ => v54_at x0 x1 x2 x3 x4 x5 x6 hL b s e

/-- The same sum, taken again for the entropy. -/
theorem v62_at (e : Fin 64) : val_main_v62 (F := Ideal) x0 x1 x2 x3 x4 x5 x6 (ix1 e) = ∑ T, kernelRow (L x0 x1 x2 x3 x4 x5 x6 T) e := v55_at x0 x1 x2 x3 x4 x5 x6 hL e

/-- The greatest weight of token `s` of sequence `b`. -/
theorem v73_at (b : Fin 4) (s : Fin 4096) : val_main_v73 (F := Ideal) x0 x1 x2 x3 x4 x5 x6 (ix2 b s) = kernelTop (L x0 x1 x2 x3 x4 x5 x6 (tok b s)) := by
  have h := hL (tok b s)
  unfold val_main_v73
  rw [reduceMax_last reducesTo_S4x4096x64_S4x4096_d2 (val_main_v54 (F := Ideal) x0 x1 x2 x3 x4 x5 x6) (val_main_cst_21 (F := Ideal)) h_S_ (fun _ => c_bot) b s, h.kernelTop, ← rowMax_weight h]
  exact congrArg rowMax (funext fun e => (v54_at x0 x1 x2 x3 x4 x5 x6 hL b s e).trans (kernelRow_eq h e))

/-- The sum of the greatest weights. -/
theorem v74_at (i : S_.Idx) : val_main_v74 (F := Ideal) x0 x1 x2 x3 x4 x5 x6 i = ∑ T, kernelTop (L x0 x1 x2 x3 x4 x5 x6 T) := by
  rw [val_main_v74_apply, val_main_cst_22_apply, c_zero]
  refine (zero_add _).trans ((sum_idx2 _).trans (Eq.trans ?_ (sum_tok fun T => kernelTop (L x0 x1 x2 x3 x4 x5 x6 T))))
  exact Finset.sum_congr rfl fun b _ => Finset.sum_congr rfl fun s _ => v73_at x0 x1 x2 x3 x4 x5 x6 hL b s

/-- The mean greatest weight. -/
theorem v75_at (i : S_.Idx) : val_main_v75 (F := Ideal) x0 x1 x2 x3 x4 x5 x6 i = (∑ T, kernelTop (L x0 x1 x2 x3 x4 x5 x6 T)) * ((1 / 16384 : ℝ) : EReal) := by
  rw [val_main_v75_apply, v74_at x0 x1 x2 x3 x4 x5 x6 hL, val_main_cst_23_apply]
  exact div_rows _

/-- The utilization of entry `e`. -/
theorem v72_at (e : Fin 64) : val_main_v72 (F := Ideal) x0 x1 x2 x3 x4 x5 x6 (ix1 e)
    = (∑ T, kernelRow (L x0 x1 x2 x3 x4 x5 x6 T) e) * ((1 / 16384 : ℝ) : EReal) := by
  rw [val_main_v72_apply, v55_at x0 x1 x2 x3 x4 x5 x6 hL, val_main_v71_apply, val_main_cst_20_apply]
  exact div_rows _

/-- The share of entry `e`, as the entropy takes it. -/
theorem v64_at (e : Fin 64) : val_main_v64 (F := Ideal) x0 x1 x2 x3 x4 x5 x6 (ix1 e)
    = (∑ T, kernelRow (L x0 x1 x2 x3 x4 x5 x6 T) e) * ((1 / 16384 : ℝ) : EReal) := by
  rw [val_main_v64_apply, v62_at x0 x1 x2 x3 x4 x5 x6 hL, val_main_v63_apply, val_main_cst_17_apply]
  exact div_rows _

/-- The sum of the shares by their logarithms. -/
theorem v69_at (i : S_.Idx) : val_main_v69 (F := Ideal) x0 x1 x2 x3 x4 x5 x6 i
    = ∑ e, (∑ T, kernelRow (L x0 x1 x2 x3 x4 x5 x6 T) e) * ((1 / 16384 : ℝ) : EReal)
        * Ideal.log ((∑ T, kernelRow (L x0 x1 x2 x3 x4 x5 x6 T) e) * ((1 / 16384 : ℝ) : EReal) + Ideal.ofBits .f32 0x322BCC77#32) := by
  rw [val_main_v69_apply, val_main_cst_19_apply, c_zero]
  have hs := sum_64 (val_main_v68 (F := Ideal) x0 x1 x2 x3 x4 x5 x6) (fun e => (∑ T, kernelRow (L x0 x1 x2 x3 x4 x5 x6 T) e) * ((1 / 16384 : ℝ) : EReal)
        * Ideal.log ((∑ T, kernelRow (L x0 x1 x2 x3 x4 x5 x6 T) e) * ((1 / 16384 : ℝ) : EReal) + Ideal.ofBits .f32 0x322BCC77#32)) (fun e => by
    rw [val_main_v68_apply, val_main_v67_apply, val_main_v66_apply, v64_at x0 x1 x2 x3 x4 x5 x6 hL, val_main_v65_apply, val_main_cst_18_apply]
    generalize (∑ T, kernelRow (L x0 x1 x2 x3 x4 x5 x6 T) e) * ((1 / 16384 : ℝ) : EReal) = p
    rfl)
  exact hs

/-- The entropy of the shares. -/
theorem v70_at (i : S_.Idx) : val_main_v70 (F := Ideal) x0 x1 x2 x3 x4 x5 x6 i
    = 0 - ∑ e, (∑ T, kernelRow (L x0 x1 x2 x3 x4 x5 x6 T) e) * ((1 / 16384 : ℝ) : EReal)
        * Ideal.log ((∑ T, kernelRow (L x0 x1 x2 x3 x4 x5 x6 T) e) * ((1 / 16384 : ℝ) : EReal) + Ideal.ofBits .f32 0x322BCC77#32) := by
  rw [val_main_v70_apply, v69_at x0 x1 x2 x3 x4 x5 x6 hL]
  exact (zero_sub _).symm

/-- The load-balancing loss. -/
theorem v61_at (i : S_.Idx) : val_main_v61 (F := Ideal) x0 x1 x2 x3 x4 x5 x6 i
    = (∑ e, ((∑ T, kernelRow (L x0 x1 x2 x3 x4 x5 x6 T) e) - ((256 : ℝ) : EReal)) * ((∑ T, kernelRow (L x0 x1 x2 x3 x4 x5 x6 T) e) - ((256 : ℝ) : EReal)))
        * Ideal.ofBits .f32 0x3923D70A#32 := by
  have h256 : (FloatOps.ofBits .f32 0x43800000#32 : Ideal .f32) = ((256 : ℝ) : EReal) := by
    show Ideal.ofBits .f32 0x43800000#32 = _
    simp [Ideal.ofBits, Ideal.ieee, -EReal.coe_mul]; norm_num
  have h64 : (FloatOps.ofBits .f32 0x42800000#32 : Ideal .f32) = ((64 : ℝ) : EReal) := by
    show Ideal.ofBits .f32 0x42800000#32 = _
    simp [Ideal.ofBits, Ideal.ieee, -EReal.coe_mul]; norm_num
  have hr : Ideal.ofBits .f32 0x3C23D70A#32 = ((10737418 / 2 ^ 30 : ℝ) : EReal) := by
    simp [Ideal.ofBits, Ideal.ieee, -EReal.coe_mul]; norm_num
  have hk : Ideal.ofBits .f32 0x3923D70A#32 = ((10737418 / 2 ^ 36 : ℝ) : EReal) := by
    simp [Ideal.ofBits, Ideal.ieee, -EReal.coe_mul]; norm_num
  have hc : ((1 / 64 : ℝ) : EReal) * Ideal.ofBits .f32 0x3C23D70A#32 = Ideal.ofBits .f32 0x3923D70A#32 := by
    rw [hr, hk, ← EReal.coe_mul]
    congr 1
    norm_num
  rw [val_main_v61_apply, val_main_v60_apply, val_main_v59_apply, val_main_cst_13_apply, val_main_cst_14_apply, val_main_cst_15_apply, c_zero, h64]
  refine Eq.trans (b := Ideal.div _ ((64 : ℝ) : EReal) * Ideal.ofBits .f32 0x3C23D70A#32) rfl ?_
  rw [Ideal.div_coe (by norm_num), mul_assoc, hc]
  refine congrArg (· * Ideal.ofBits .f32 0x3923D70A#32) (sum_64 (val_main_v58 (F := Ideal) x0 x1 x2 x3 x4 x5 x6)
    (fun e => ((∑ T, kernelRow (L x0 x1 x2 x3 x4 x5 x6 T) e) - ((256 : ℝ) : EReal)) * ((∑ T, kernelRow (L x0 x1 x2 x3 x4 x5 x6 T) e) - ((256 : ℝ) : EReal))) fun e => ?_)
  rw [val_main_v58_apply, val_main_v57_apply, v55_at x0 x1 x2 x3 x4 x5 x6 hL, val_main_v56_apply, val_main_cst_12_apply, h256]
  generalize ∑ T, kernelRow (L x0 x1 x2 x3 x4 x5 x6 T) e = u
  rfl

end Cert.ReferenceIdeal.Router

end
-- ==== Proof.Pre.lean ====
module

public import proofs.«01_k».proof.Proof.Ref
public import proofs.«01_k».proof.Proof.Gen.Pre_no_tie
public import Idealize.ShloMosaic.Lib.Pointwise

@[expose] public section

/-! # What the precondition says

  `no_tie` is all ones exactly when each row's greatest logit is finite above and strictly over the second, and the second
  strictly over the third; so the two greatest logits of each row are determined. -/

set_option maxRecDepth 16384

noncomputable section

namespace Cert.Router

open Cert.Pre_no_tie Cert.ReferenceIdeal.Router
open Idealize.ShloMosaic Idealize.ShloMosaic.TcCoe Idealize.SL.Sem

/-- The word of +∞ is the greatest extended real. -/
theorem ofBits_top : Ideal.ofBits .f32 0x7F800000#32 = (⊤ : EReal) := by
  simp [Ideal.ofBits, Ideal.ieee, -EReal.coe_mul]

/-- The predicate's word at a row, from the three greatest logits. -/
theorem part_at (v : FVec Ideal S16384x3 .f32) (T : Fin 16384) : fn_part1 (F := Ideal) v (ix1 T)
    = IntOp.andi (IntOp.andi (BitVec.ofBool (decide (v (ix2 T 0) < Ideal.ofBits .f32 0x7F800000#32))) (BitVec.ofBool (decide (v (ix2 T 1) < v (ix2 T 0)))))
        (BitVec.ofBool (decide (v (ix2 T 2) < v (ix2 T 1)))) := by
  have h0 : shapeCast S16384 (extractStridedSlice S16384x1 ![0, 0] v Facts.slices_S16384x3_S16384x1_0_0) Facts.shapeCasts_S16384x1_S16384 (ix1 T) = v (ix2 T 0) := by pointwise
  have h1 : shapeCast S16384 (extractStridedSlice S16384x1 ![0, 1] v Facts.slices_S16384x3_S16384x1_0_1) Facts.shapeCasts_S16384x1_S16384 (ix1 T) = v (ix2 T 1) := by pointwise
  have h2 : shapeCast S16384 (extractStridedSlice S16384x1 ![0, 2] v Facts.slices_S16384x3_S16384x1_0_2) Facts.shapeCasts_S16384x1_S16384 (ix1 T) = v (ix2 T 2) := by pointwise
  rw [← h0, ← h1, ← h2]
  rfl

/-- The predicate over the reference's logits. -/
theorem fn_eq (x0 : FVec Ideal S4x4096x4096 .f32) (x1 : FVec Ideal S4096x512 .f32) (x2 : FVec Ideal S512 .f32) (x3 : FVec Ideal S512x256 .f32)
    (x4 : FVec Ideal S256 .f32) (x5 : FVec Ideal S256x64 .f32) (x6 : FVec Ideal S64 .f32) :
    fn (F := Ideal) x0 x1 x2 x3 x4 x5 x6 = fn_part1 (F := Ideal) (Host.topK S16384x3 1 (FloatOps.cmpfTotal (F := Ideal) (φ := .f32) .gt)
      (Cert.ReferenceIdeal.Read.val_main_v18 (F := Ideal) x0 x1 x2 x3 x4 x5 x6) Facts.sliceFits_S16384x64_S16384x3).1 := rfl

/-- Where the precondition holds, the two greatest logits of every row are determined. -/
theorem top2_of_pre (x0 : FVec Ideal S4x4096x4096 .f32) (x1 : FVec Ideal S4096x512 .f32) (x2 : FVec Ideal S512 .f32) (x3 : FVec Ideal S512x256 .f32)
    (x4 : FVec Ideal S256 .f32) (x5 : FVec Ideal S256x64 .f32) (x6 : FVec Ideal S64 .f32)
    (h : fn (F := Ideal) x0 x1 x2 x3 x4 x5 x6 = fun _ => 1#1) (T : Fin 16384) :
    Top2 (L x0 x1 x2 x3 x4 x5 x6 T) (pos (L x0 x1 x2 x3 x4 x5 x6 T) 0) (pos (L x0 x1 x2 x3 x4 x5 x6 T) 1) := by
  have hrow : (fun e => Cert.ReferenceIdeal.Read.val_main_v18 (F := Ideal) x0 x1 x2 x3 x4 x5 x6 (ix2 T e)) = L x0 x1 x2 x3 x4 x5 x6 T :=
    funext fun e => v18_at x0 x1 x2 x3 x4 x5 x6 T e
  have hv : ∀ (j : Fin 3) (hj : j.val < 64), (Host.topK S16384x3 1 (FloatOps.cmpfTotal (F := Ideal) (φ := .f32) .gt)
      (Cert.ReferenceIdeal.Read.val_main_v18 (F := Ideal) x0 x1 x2 x3 x4 x5 x6) Facts.sliceFits_S16384x64_S16384x3).1 (ix2 T j)
      = L x0 x1 x2 x3 x4 x5 x6 T (pos (L x0 x1 x2 x3 x4 x5 x6 T) ⟨j.val, hj⟩) := fun j hj => by
    refine (topK_value _ _ T j hj).trans ?_
    rw [hrow]
    exact v18_at x0 x1 x2 x3 x4 x5 x6 T _
  have hT := congrFun ((fn_eq x0 x1 x2 x3 x4 x5 x6).symm.trans h) (ix1 T)
  rw [part_at, hv 0 (by decide), hv 1 (by decide), hv 2 (by decide), ofBits_top] at hT
  simp only [WordArith.andi_ofBool, WordArith.ofBool_eq_one_iff, Bool.and_eq_true, decide_eq_true_eq] at hT
  exact top2_pos hT.1.1 hT.1.2 hT.2

end Cert.Router

end
-- ==== Proof.Equal.lean ====
module

public import proofs.«01_k».proof.Proof.Results
public import proofs.«01_k».proof.Proof.Pre
public import proofs.«01_k».proof.Proof.Gen.ReferenceIdeal.Run
public import Idealize.ShloMosaic.Lib.Quiescent

@[expose] public section

/-! # The reference's results are the kernel's

  From memories that agree on the arguments, and where the precondition holds, each of the reference's six results is the
  kernel's. -/

set_option maxRecDepth 16384

noncomputable section

namespace Cert.ReferenceIdeal.Equal

open Cert.ReferenceIdeal Cert.ReferenceIdeal.Gen Cert.ReferenceIdeal.Read Cert.ReferenceIdeal.Router Cert.Router
open Idealize.ShloMosaic Idealize.ShloMosaic.TcCoe Idealize.SL.Sem
open Cert.KernelIdeal.Results (weights loss entropy utilization confidence usages)

variable (m : (ℓ : Loc Cert.KernelIdeal.nD Cert.KernelIdeal.τ Cert.KernelIdeal.sig) → Buf (Elt Ideal) ℓ)

/-- The reference's run ends with its arguments unchanged and every counter at zero. -/
theorem quiescent (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2.2.2.2.2.2, Idealize.ShloMosaic.sem_eq_zero_of_no_sems (by decide) r.2⟩)
    (Value.run (F := Ideal) m ρ)

section
variable (c : Dev Cert.KernelIdeal.nD)

/-- The kernel's arguments at core `c`: the tokens. -/
abbrev a0 := m (c.tc.loc Cert.KernelIdeal.main_arg0)
/-- The first weight matrix. -/
abbrev a1 := m (c.tc.loc Cert.KernelIdeal.main_arg1)
/-- The first bias. -/
abbrev a2 := m (c.tc.loc Cert.KernelIdeal.main_arg2)
/-- The second weight matrix. -/
abbrev a3 := m (c.tc.loc Cert.KernelIdeal.main_arg3)
/-- The second bias. -/
abbrev a4 := m (c.tc.loc Cert.KernelIdeal.main_arg4)
/-- The third weight matrix. -/
abbrev a5 := m (c.tc.loc Cert.KernelIdeal.main_arg5)
/-- The third bias. -/
abbrev a6 := m (c.tc.loc Cert.KernelIdeal.main_arg6)

/-- The two programs' logits are the same function of the arguments. -/
theorem logits_eq (T : Fin 16384) : L (a0 m c) (a1 m c) (a2 m c) (a3 m c) (a4 m c) (a5 m c) (a6 m c) T = Cert.KernelIdeal.Final.logits m c T := rfl

variable (h : Cert.Pre_no_tie.fn (F := Ideal) (a0 m c) (a1 m c) (a2 m c) (a3 m c) (a4 m c) (a5 m c) (a6 m c) = fun _ => 1#1)
include h

/-- The routing weights agree. -/
theorem weights_eq : val_main_v54 (F := Ideal) (a0 m c) (a1 m c) (a2 m c) (a3 m c) (a4 m c) (a5 m c) (a6 m c) = weights m c := by
  funext i
  rw [eq_ix3 i]
  exact v54_at _ _ _ _ _ _ _ (top2_of_pre _ _ _ _ _ _ _ h) _ _ _

/-- The load-balancing losses agree. -/
theorem loss_eq : val_main_v61 (F := Ideal) (a0 m c) (a1 m c) (a2 m c) (a3 m c) (a4 m c) (a5 m c) (a6 m c) = loss m c :=
  funext fun i => v61_at _ _ _ _ _ _ _ (top2_of_pre _ _ _ _ _ _ _ h) i

/-- The entropies agree. -/
theorem entropy_eq : val_main_v70 (F := Ideal) (a0 m c) (a1 m c) (a2 m c) (a3 m c) (a4 m c) (a5 m c) (a6 m c) = entropy m c :=
  funext fun i => v70_at _ _ _ _ _ _ _ (top2_of_pre _ _ _ _ _ _ _ h) i

/-- The utilizations agree. -/
theorem utilization_eq : val_main_v72 (F := Ideal) (a0 m c) (a1 m c) (a2 m c) (a3 m c) (a4 m c) (a5 m c) (a6 m c) = utilization m c := by
  funext i
  rw [eq_ix1 i]
  exact v72_at _ _ _ _ _ _ _ (top2_of_pre _ _ _ _ _ _ _ h) _

/-- The confidences agree. -/
theorem confidence_eq : val_main_v75 (F := Ideal) (a0 m c) (a1 m c) (a2 m c) (a3 m c) (a4 m c) (a5 m c) (a6 m c) = confidence m c :=
  funext fun i => v75_at _ _ _ _ _ _ _ (top2_of_pre _ _ _ _ _ _ _ h) i

/-- The usages agree. -/
theorem usages_eq : val_main_v55 (F := Ideal) (a0 m c) (a1 m c) (a2 m c) (a3 m c) (a4 m c) (a5 m c) (a6 m c) = usages m c := by
  funext i
  rw [eq_ix1 i]
  exact v55_at _ _ _ _ _ _ _ (top2_of_pre _ _ _ _ _ _ _ h) _

end

/-- Every run of the reference, from a memory that agrees on the arguments and where the precondition holds, ends with the
    kernel's six results and its arguments unchanged. -/
theorem run (m' : (ℓ : Loc nD τ sig) → Buf (Elt Ideal) ℓ) (ρ : Dev nD → PrngReg)
    (h : ∀ c, Cert.Pre_no_tie.fn (F := Ideal) (a0 m c) (a1 m c) (a2 m c) (a3 m c) (a4 m c) (a5 m c) (a6 m c) = fun _ => 1#1)
    (ha : ∀ c : Dev nD, m' (c.tc.loc main_arg0) = a0 m c ∧ m' (c.tc.loc main_arg1) = a1 m c ∧ m' (c.tc.loc main_arg2) = a2 m c
      ∧ m' (c.tc.loc main_arg3) = a3 m c ∧ m' (c.tc.loc main_arg4) = a4 m c ∧ m' (c.tc.loc main_arg5) = a5 m c ∧ m' (c.tc.loc main_arg6) = a6 m c) :
    θ_run defs (onTc (τ := τ) (main (F := Ideal))) ⟨m', fun _ => 0, ρ⟩ (fun r => ∀ c : Dev nD,
      r.2.mem ((c.tc : Thread nD τ).loc main_v54) = weights m c
      ∧ r.2.mem ((c.tc : Thread nD τ).loc main_v61) = loss m c
      ∧ r.2.mem ((c.tc : Thread nD τ).loc main_v70) = entropy m c
      ∧ r.2.mem ((c.tc : Thread nD τ).loc main_v72) = utilization m c
      ∧ r.2.mem ((c.tc : Thread nD τ).loc main_v75) = confidence m c
      ∧ r.2.mem ((c.tc : Thread nD τ).loc main_v55) = usages m c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)) := by
  refine (θ_run defs _ _).mono (fun r q c => ?_) (Value.run (F := Ideal) m' ρ)
  obtain ⟨h0, h1, h2, h3, h4, h5, h6⟩ := ha c
  obtain ⟨q0, q1, q2, q3, q4, q5, qa⟩ := q c
  refine ⟨q0.trans ?_, q1.trans ?_, q2.trans ?_, q3.trans ?_, q4.trans ?_, q5.trans ?_, qa⟩
  · rw [val_main_v54_eq, h0, h1, h2, h3, h4, h5, h6]; exact weights_eq m c (h c)
  · rw [val_main_v61_eq, h0, h1, h2, h3, h4, h5, h6]; exact loss_eq m c (h c)
  · rw [val_main_v70_eq, h0, h1, h2, h3, h4, h5, h6]; exact entropy_eq m c (h c)
  · rw [val_main_v72_eq, h0, h1, h2, h3, h4, h5, h6]; exact utilization_eq m c (h c)
  · rw [val_main_v75_eq, h0, h1, h2, h3, h4, h5, h6]; exact confidence_eq m c (h c)
  · rw [val_main_v55_eq, h0, h1, h2, h3, h4, h5, h6]; exact usages_eq m c (h c)

end Cert.ReferenceIdeal.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_no_tie
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Every claim. -/
theorem claim : Cert.Claim :=
  ⟨Cert.Kernel.Gen.facts, Cert.KernelIdeal.Gen.facts, Cert.ReferenceIdeal.Gen.facts, Cert.Pre_no_tie.Gen.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Equal.quiescent m ρ,
    fun m ρ _ => Cert.ReferenceIdeal.Equal.quiescent m ρ, trivial,
    fun m ρ m' ρ' hpre hargs => ⟨Cert.KernelIdeal.Results.weights m, Cert.KernelIdeal.Results.loss m, Cert.KernelIdeal.Results.entropy m,
      Cert.KernelIdeal.Results.utilization m, Cert.KernelIdeal.Results.confidence m, Cert.KernelIdeal.Results.usages m,
      Cert.KernelIdeal.Results.run m ρ, Cert.ReferenceIdeal.Equal.run m m' ρ' hpre hargs⟩⟩

end Cert.Proof

end
